-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S8x512x640 : Shape := ⟨3, ![8, 512, 640]⟩
abbrev S8x512x768 : Shape := ⟨3, ![8, 512, 768]⟩
abbrev S7x512x640 : Shape := ⟨3, ![7, 512, 640]⟩
abbrev S7x512x768 : Shape := ⟨3, ![7, 512, 768]⟩
abbrev S3 : Shape := ⟨1, ![3]⟩
abbrev S5 : Shape := ⟨1, ![5]⟩
abbrev S7 : Shape := ⟨1, ![7]⟩
abbrev S512x640 : Shape := ⟨2, ![512, 640]⟩
abbrev S512x768 : Shape := ⟨2, ![512, 768]⟩
abbrev S_ : Shape := ⟨0, ![]⟩
abbrev S2048x512 : Shape := ⟨2, ![2048, 512]⟩
abbrev S2048x640 : Shape := ⟨2, ![2048, 640]⟩
abbrev S4x512x640 : Shape := ⟨3, ![4, 512, 640]⟩
abbrev S1024x512 : Shape := ⟨2, ![1024, 512]⟩
abbrev S1024x640 : Shape := ⟨2, ![1024, 640]⟩
abbrev S2x512x640 : Shape := ⟨3, ![2, 512, 640]⟩
abbrev S512x512 : Shape := ⟨2, ![512, 512]⟩
abbrev S1x512x768 : Shape := ⟨3, ![1, 512, 768]⟩
abbrev S1x512x640 : Shape := ⟨3, ![1, 512, 640]⟩

abbrev nBuf : Space → Nat
  | .hbm => 5
  | .vmem => 9
  | .smem => 2
  | _ => 0

abbrev bufTy : (tb : Table) → Fin (tcTables nBuf tb) → BufTy
  | .hbm, ⟨0, _⟩ => ⟨S4096x512, .i8⟩
  | .hbm, ⟨1, _⟩ => ⟨S512x2048, .i8⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .i8⟩
  | .local _ .vmem, ⟨1, _⟩ => ⟨S512x2048, .i8⟩
  | .local _ .vmem, ⟨2, _⟩ => ⟨S512x2048, .f32⟩
  | .local _ .vmem, ⟨3, _⟩ => ⟨S8x512x640, .bf16⟩
  | .local _ .vmem, ⟨4, _⟩ => ⟨S8x512x640, .bf16⟩
  | .local _ .vmem, ⟨5, _⟩ => ⟨S8x512x768, .bf16⟩
  | .local _ .vmem, ⟨6, _⟩ => ⟨S7x512x640, .bf16⟩
  | .local _ .vmem, ⟨7, _⟩ => ⟨S7x512x640, .bf16⟩
  | .local _ .vmem, ⟨8, _⟩ => ⟨S7x512x768, .bf16⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v16 : BitVec 32 := Scalar.xori v2 c1_i32_7
  let c1_i32_9 : BitVec 32 := 1#32
  let v19 : BitVec 32 := Scalar.muli v16 c1_i32_9
  let v20 : BitVec 32 := Scalar.addi c0_i32 v19
  v20.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.xori v2 c3_i32
  let c1_i32_11 : BitVec 32 := 1#32
  let v21 : BitVec 32 := Scalar.muli v17 c1_i32_11
  let v22 : BitVec 32 := Scalar.addi c0_i32_12 v21
  v22.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_14 : BitVec 32 := 1#32
  let v23 : BitVec 32 := Scalar.muli v18 c1_i32_14
  let v24 : BitVec 32 := Scalar.addi c0_i32_15 v23
  v24.toNat
def k0_off1 (d0 : Dev nD) : Fin 2 → Nat :=
  let c4_i32_18 : BitVec 32 := 4#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v25 : BitVec 32 := Scalar.subi c1_i32_17 v3
  let v26 : BitVec 32 := Scalar.muli c4_i32_18 v25
  let c512_i32 : BitVec 32 := 512#32
  let v27 : BitVec 32 := Scalar.muli v26 c512_i32
  let v28 : Index := Scalar.indexCast v27
  let c0_19 : Index := 0#32
  ![v28.toNat, 0]
def k0_off2 (d0 : Dev nD) : Fin 3 → Nat :=
  let c4_i32_21 : BitVec 32 := 4#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v34 : BitVec 32 := Scalar.subi c1_i32_20 v3
  let v35 : BitVec 32 := Scalar.muli c4_i32_21 v34
  let v36 : Index := Scalar.indexCast v35
  let c0_22 : Index := 0#32
  let c0_23 : Index := 0#32
  ![v36.toNat, 0, 0]
def k0_off3 (d0 : Dev nD) : Fin 3 → Nat :=
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v40 : BitVec 32 := Scalar.subi c1_i32_24 v3
  let v41 : BitVec 32 := Scalar.muli c4_i32_25 v40
  let c0_i32_34 : BitVec 32 := 0#32
  let c0_i32_35 : BitVec 32 := 0#32
  ![v41.toNat, 0, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v42 : BitVec 32 := Scalar.xori v2 c4_i32_26
  let c1_i32_29 : BitVec 32 := 1#32
  let v43 : BitVec 32 := Scalar.muli v42 c1_i32_29
  let v44 : BitVec 32 := Scalar.addi c0_i32_30 v43
  v44.toNat
def k0_off4 (d0 : Dev nD) : Fin 2 → Nat :=
  let c2_i32_37 : BitVec 32 := 2#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v51 : BitVec 32 := Scalar.subi c1_i32_36 v5
  let v52 : BitVec 32 := Scalar.muli c2_i32_37 v51
  let c512_i32_38 : BitVec 32 := 512#32
  let v53 : BitVec 32 := Scalar.muli v52 c512_i32_38
  let v54 : Index := Scalar.indexCast v53
  let c0_39 : Index := 0#32
  ![v54.toNat, 0]
def k0_off5 (d0 : Dev nD) : Fin 3 → Nat :=
  let c2_i32_42 : BitVec 32 := 2#32
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v60 : BitVec 32 := Scalar.subi c1_i32_41 v5
  let v61 : BitVec 32 := Scalar.muli c2_i32_42 v60
  let v62 : Index := Scalar.indexCast v61
  let c0_43 : Index := 0#32
  let c0_44 : Index := 0#32
  ![v62.toNat, 0, 0]
def k0_off6 (d0 : Dev nD) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v66 : BitVec 32 := Scalar.subi c1_i32_45 v5
  let v67 : BitVec 32 := Scalar.muli c2_i32_46 v66
  let v68 : BitVec 32 := Scalar.addi c4_i32_47 v67
  let c512_i32_48 : BitVec 32 := 512#32
  let v69 : BitVec 32 := Scalar.muli v68 c512_i32_48
  let v70 : Index := Scalar.indexCast v69
  let c0_49 : Index := 0#32
  ![v70.toNat, 0]
def k0_off7 (d0 : Dev nD) : Fin 3 → Nat :=
  let c4_i32_53 : BitVec 32 := 4#32
  let c2_i32_52 : BitVec 32 := 2#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v76 : BitVec 32 := Scalar.subi c1_i32_51 v5
  let v77 : BitVec 32 := Scalar.muli c2_i32_52 v76
  let v78 : BitVec 32 := Scalar.addi c4_i32_53 v77
  let v79 : Index := Scalar.indexCast v78
  let c0_54 : Index := 0#32
  let c0_55 : Index := 0#32
  ![v79.toNat, 0, 0]
def k0_off8 (d0 : Dev nD) : Fin 3 → Nat :=
  let c2_i32_57 : BitVec 32 := 2#32
  let c1_i32_56 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v83 : BitVec 32 := Scalar.subi c1_i32_56 v5
  let v84 : BitVec 32 := Scalar.muli c2_i32_57 v83
  let c0_i32_70 : BitVec 32 := 0#32
  let c0_i32_71 : BitVec 32 := 0#32
  ![v84.toNat, 0, 0]
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_58 : BitVec 32 := 3#32
  let v85 : BitVec 32 := Scalar.xori v2 c3_i32_58
  let c1_i32_65 : BitVec 32 := 1#32
  let v90 : BitVec 32 := Scalar.muli v85 c1_i32_65
  let v91 : BitVec 32 := Scalar.addi c0_i32_66 v90
  v91.toNat
def k0_off9 (d0 : Dev nD) : Fin 3 → Nat :=
  let c4_i32_61 : BitVec 32 := 4#32
  let c2_i32_60 : BitVec 32 := 2#32
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v86 : BitVec 32 := Scalar.subi c1_i32_59 v5
  let v87 : BitVec 32 := Scalar.muli c2_i32_60 v86
  let v88 : BitVec 32 := Scalar.addi c4_i32_61 v87
  let c0_i32_79 : BitVec 32 := 0#32
  let c0_i32_80 : BitVec 32 := 0#32
  ![v88.toNat, 0, 0]
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v89 : BitVec 32 := Scalar.xori v2 c3_i32_62
  let c1_i32_74 : BitVec 32 := 1#32
  let v98 : BitVec 32 := Scalar.muli v89 c1_i32_74
  let v99 : BitVec 32 := Scalar.addi c0_i32_75 v98
  v99.toNat
def k0_off10 (d0 : Dev nD) (c0_i32_83 : BitVec 32) (c1_i32_84 : BitVec 32) : Fin 2 → Nat :=
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let v7 : BitVec 32 := Scalar.xori v2 v6
  let c1_i32_3 : BitVec 32 := 1#32
  let v8 : BitVec 32 := Scalar.andi v7 c1_i32_3
  let v106 : BitVec 32 := Scalar.subi c1_i32_81 v8
  let c0_i32_82 : BitVec 32 := 0#32
  let v107 : BitVec 1 := Scalar.cmpi .eq v106 c0_i32_82
  let v108 : BitVec 32 := Scalar.select v107 c0_i32_83 c1_i32_84
  let c512_i32_103 : BitVec 32 := 512#32
  let v123 : BitVec 32 := Scalar.muli v108 c512_i32_103
  let v124 : Index := Scalar.indexCast v123
  let c0_104 : Index := 0#32
  ![v124.toNat, 0]
def k0_off10_at (r : Fin 4) : BitVec 32 × BitVec 32 :=
  if r.val < 2 then
    if r.val < 1 then
      (0#32, 1#32)
    else
      (3#32, 2#32)
  else
    if r.val < 3 then
      (4#32, 5#32)
    else
      (7#32, 6#32)
def k0_off11 (d0 : Dev nD) (c0_i32_83 : BitVec 32) (c1_i32_84 : BitVec 32) : Fin 3 → Nat :=
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let v7 : BitVec 32 := Scalar.xori v2 v6
  let c1_i32_3 : BitVec 32 := 1#32
  let v8 : BitVec 32 := Scalar.andi v7 c1_i32_3
  let v106 : BitVec 32 := Scalar.subi c1_i32_81 v8
  let c0_i32_82 : BitVec 32 := 0#32
  let v107 : BitVec 1 := Scalar.cmpi .eq v106 c0_i32_82
  let v108 : BitVec 32 := Scalar.select v107 c0_i32_83 c1_i32_84
  let v130 : Index := Scalar.indexCast v108
  let c0_106 : Index := 0#32
  let c0_107 : Index := 0#32
  ![v130.toNat, 0, 0]
def k0_off11_at (r : Fin 4) : BitVec 32 × BitVec 32 :=
  if r.val < 2 then
    if r.val < 1 then
      (0#32, 1#32)
    else
      (3#32, 2#32)
  else
    if r.val < 3 then
      (4#32, 5#32)
    else
      (7#32, 6#32)
def k0_off12 (d0 : Dev nD) (c0_i32_83 : BitVec 32) (c1_i32_84 : BitVec 32) : Fin 3 → Nat :=
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let v7 : BitVec 32 := Scalar.xori v2 v6
  let c1_i32_3 : BitVec 32 := 1#32
  let v8 : BitVec 32 := Scalar.andi v7 c1_i32_3
  let v106 : BitVec 32 := Scalar.subi c1_i32_81 v8
  let c0_i32_82 : BitVec 32 := 0#32
  let v107 : BitVec 1 := Scalar.cmpi .eq v106 c0_i32_82
  let v108 : BitVec 32 := Scalar.select v107 c0_i32_83 c1_i32_84
  let c0_i32_122 : BitVec 32 := 0#32
  let c0_i32_123 : BitVec 32 := 0#32
  ![v108.toNat, 0, 0]
def k0_off12_at (r : Fin 4) : BitVec 32 × BitVec 32 :=
  if r.val < 2 then
    if r.val < 1 then
      (0#32, 1#32)
    else
      (3#32, 2#32)
  else
    if r.val < 3 then
      (4#32, 5#32)
    else
      (7#32, 6#32)
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_113 : BitVec 32 := 1#32
  let v145 : BitVec 32 := Scalar.xori v2 c1_i32_113
  let c1_i32_117 : BitVec 32 := 1#32
  let v147 : BitVec 32 := Scalar.muli v145 c1_i32_117
  let v148 : BitVec 32 := Scalar.addi c0_i32_118 v147
  v148.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v146 : BitVec 32 := Scalar.xori v2 c1_i32_114
  let c1_i32_126 : BitVec 32 := 1#32
  let v155 : BitVec 32 := Scalar.muli v146 c1_i32_126
  let v156 : BitVec 32 := Scalar.addi c0_i32_127 v155
  v156.toNat
def k0_off13 (d0 : Dev nD) : Fin 2 → Nat :=
  let c4_i32_143 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v185 : BitVec 32 := Scalar.muli c4_i32_143 v3
  let c512_i32_144 : BitVec 32 := 512#32
  let v186 : BitVec 32 := Scalar.muli v185 c512_i32_144
  let v187 : Index := Scalar.indexCast v186
  let c0_145 : Index := 0#32
  ![v187.toNat, 0]
def k0_off14 (d0 : Dev nD) : Fin 3 → Nat :=
  let c4_i32_147 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v193 : BitVec 32 := Scalar.muli c4_i32_147 v3
  let v194 : Index := Scalar.indexCast v193
  let c0_148 : Index := 0#32
  let c0_149 : Index := 0#32
  ![v194.toNat, 0, 0]
def k0_off15 (d0 : Dev nD) : Fin 2 → Nat :=
  let c2_i32_150 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v198 : BitVec 32 := Scalar.muli c2_i32_150 v5
  let c512_i32_151 : BitVec 32 := 512#32
  let v199 : BitVec 32 := Scalar.muli v198 c512_i32_151
  let v200 : Index := Scalar.indexCast v199
  let c0_152 : Index := 0#32
  ![v200.toNat, 0]
def k0_off16 (d0 : Dev nD) : Fin 3 → Nat :=
  let c2_i32_154 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v206 : BitVec 32 := Scalar.muli c2_i32_154 v5
  let v207 : Index := Scalar.indexCast v206
  let c0_155 : Index := 0#32
  let c0_156 : Index := 0#32
  ![v207.toNat, 0, 0]
def k0_off17 (d0 : Dev nD) : Fin 2 → Nat :=
  let c4_i32_158 : BitVec 32 := 4#32
  let c2_i32_157 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v211 : BitVec 32 := Scalar.muli c2_i32_157 v5
  let v212 : BitVec 32 := Scalar.addi c4_i32_158 v211
  let c512_i32_159 : BitVec 32 := 512#32
  let v213 : BitVec 32 := Scalar.muli v212 c512_i32_159
  let v214 : Index := Scalar.indexCast v213
  let c0_160 : Index := 0#32
  ![v214.toNat, 0]
def k0_off18 (d0 : Dev nD) : Fin 3 → Nat :=
  let c4_i32_163 : BitVec 32 := 4#32
  let c2_i32_162 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.shrsi v2 c1_i32_0
  let c1_i32_1 : BitVec 32 := 1#32
  let v5 : BitVec 32 := Scalar.andi v4 c1_i32_1
  let v220 : BitVec 32 := Scalar.muli c2_i32_162 v5
  let v221 : BitVec 32 := Scalar.addi c4_i32_163 v220
  let v222 : Index := Scalar.indexCast v221
  let c0_164 : Index := 0#32
  let c0_165 : Index := 0#32
  ![v222.toNat, 0, 0]
def k0_off19 (d0 : Dev nD) (c0_i32_92 : BitVec 32) (c1_i32_93 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let v7 : BitVec 32 := Scalar.xori v2 v6
  let c1_i32_3 : BitVec 32 := 1#32
  let v8 : BitVec 32 := Scalar.andi v7 c1_i32_3
  let c0_i32_91 : BitVec 32 := 0#32
  let v115 : BitVec 1 := Scalar.cmpi .eq v8 c0_i32_91
  let v116 : BitVec 32 := Scalar.select v115 c0_i32_92 c1_i32_93
  let c512_i32_166 : BitVec 32 := 512#32
  let v226 : BitVec 32 := Scalar.muli v116 c512_i32_166
  let v227 : Index := Scalar.indexCast v226
  let c0_167 : Index := 0#32
  ![v227.toNat, 0]
def k0_off19_at (r : Fin 4) : BitVec 32 × BitVec 32 :=
  if r.val < 2 then
    if r.val < 1 then
      (0#32, 1#32)
    else
      (3#32, 2#32)
  else
    if r.val < 3 then
      (4#32, 5#32)
    else
      (7#32, 6#32)
def k0_off20 (d0 : Dev nD) (c0_i32_92 : BitVec 32) (c1_i32_93 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let v7 : BitVec 32 := Scalar.xori v2 v6
  let c1_i32_3 : BitVec 32 := 1#32
  let v8 : BitVec 32 := Scalar.andi v7 c1_i32_3
  let c0_i32_91 : BitVec 32 := 0#32
  let v115 : BitVec 1 := Scalar.cmpi .eq v8 c0_i32_91
  let v116 : BitVec 32 := Scalar.select v115 c0_i32_92 c1_i32_93
  let v233 : Index := Scalar.indexCast v116
  let c0_169 : Index := 0#32
  let c0_170 : Index := 0#32
  ![v233.toNat, 0, 0]
def k0_off20_at (r : Fin 4) : BitVec 32 × BitVec 32 :=
  if r.val < 2 then
    if r.val < 1 then
      (0#32, 1#32)
    else
      (3#32, 2#32)
  else
    if r.val < 3 then
      (4#32, 5#32)
    else
      (7#32, 6#32)
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_210 : BitVec 32 := 1#32
  let v288 : BitVec 32 := Scalar.xori v2 c1_i32_210
  let c1_i32_213 : BitVec 32 := 1#32
  let v289 : BitVec 32 := Scalar.muli v288 c1_i32_213
  let v290 : BitVec 32 := Scalar.addi c0_i32_214 v289
  v290.toNat
def k0_dev10 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v315 : BitVec 32 := Scalar.xori v2 c1_i32_243
  let c1_i32_246 : BitVec 32 := 1#32
  let v316 : BitVec 32 := Scalar.muli v315 c1_i32_246
  let v317 : BitVec 32 := Scalar.addi c0_i32_247 v316
  v317.toNat
def k0_off21 (d0 : Dev nD) : Fin 3 → Nat :=
  let c4_i32_351 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v400 : BitVec 32 := Scalar.muli c4_i32_351 v3
  let c2_i32_353 : BitVec 32 := 2#32
  let c1_i32_352 : BitVec 32 := 1#32
  let c1_i32_0 : BitVec 32 := 1#32
  let v4 : BitVec 32 := Scalar.shrsi v2 c1_i32_0
  let c1_i32_1 : BitVec 32 := 1#32
  let v5 : BitVec 32 := Scalar.andi v4 c1_i32_1
  let v401 : BitVec 32 := Scalar.subi c1_i32_352 v5
  let v402 : BitVec 32 := Scalar.muli c2_i32_353 v401
  let v403 : BitVec 32 := Scalar.addi v400 v402
  let c0_i32_362 : BitVec 32 := 0#32
  let c0_i32_363 : BitVec 32 := 0#32
  ![v403.toNat, 0, 0]
def k0_dev11 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_354 : BitVec 32 := 3#32
  let v404 : BitVec 32 := Scalar.xori v2 c3_i32_354
  let c1_i32_357 : BitVec 32 := 1#32
  let v405 : BitVec 32 := Scalar.muli v404 c1_i32_357
  let v406 : BitVec 32 := Scalar.addi c0_i32_358 v405
  v406.toNat
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_364 : BitVec 32 := 4#32
  let v413 : BitVec 32 := Scalar.xori v2 c4_i32_364
  let c7_i32_365 : BitVec 32 := 7#32
  let v414 : BitVec 32 := Scalar.xori v2 c7_i32_365
  let v415 : BitVec 32 := Scalar.minsi v413 v414
  let c0_i32_379 : BitVec 32 := 0#32
  let c0_i32_380 : BitVec 32 := 0#32
  ![v415.toNat, 0, 0]
def k0_dev12 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_370 : BitVec 32 := 4#32
  let v423 : BitVec 32 := Scalar.xori v2 c4_i32_370
  let c1_i32_374 : BitVec 32 := 1#32
  let v425 : BitVec 32 := Scalar.muli v423 c1_i32_374
  let v426 : BitVec 32 := Scalar.addi c0_i32_375 v425
  v426.toNat
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_366 : BitVec 32 := 4#32
  let v416 : BitVec 32 := Scalar.xori v2 c4_i32_366
  let c7_i32_367 : BitVec 32 := 7#32
  let v417 : BitVec 32 := Scalar.xori v2 c7_i32_367
  let v418 : BitVec 32 := Scalar.maxsi v416 v417
  let c0_i32_388 : BitVec 32 := 0#32
  let c0_i32_389 : BitVec 32 := 0#32
  ![v418.toNat, 0, 0]
def k0_dev13 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_371 : BitVec 32 := 4#32
  let v424 : BitVec 32 := Scalar.xori v2 c4_i32_371
  let c1_i32_383 : BitVec 32 := 1#32
  let v433 : BitVec 32 := Scalar.muli v424 c1_i32_383
  let v434 : BitVec 32 := Scalar.addi c0_i32_384 v433
  v434.toNat
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v463 : BitVec 32 := Scalar.xori v2 c1_i32_418
  let c3_i32_419 : BitVec 32 := 3#32
  let v464 : BitVec 32 := Scalar.andi v463 c3_i32_419
  let c0_i32_431 : BitVec 32 := 0#32
  let c0_i32_432 : BitVec 32 := 0#32
  ![v464.toNat, 0, 0]
def k0_dev14 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_421 : BitVec 32 := 1#32
  let v466 : BitVec 32 := Scalar.xori v2 c1_i32_421
  let c1_i32_426 : BitVec 32 := 1#32
  let v469 : BitVec 32 := Scalar.muli v466 c1_i32_426
  let v470 : BitVec 32 := Scalar.addi c0_i32_427 v469
  v470.toNat
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v463 : BitVec 32 := Scalar.xori v2 c1_i32_418
  let c3_i32_419 : BitVec 32 := 3#32
  let v464 : BitVec 32 := Scalar.andi v463 c3_i32_419
  let c4_i32_422 : BitVec 32 := 4#32
  let v467 : BitVec 32 := Scalar.addi v464 c4_i32_422
  let c0_i32_440 : BitVec 32 := 0#32
  let c0_i32_441 : BitVec 32 := 0#32
  ![v467.toNat, 0, 0]
def k0_dev15 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_423 : BitVec 32 := 1#32
  let v468 : BitVec 32 := Scalar.xori v2 c1_i32_423
  let c1_i32_435 : BitVec 32 := 1#32
  let v477 : BitVec 32 := Scalar.muli v468 c1_i32_435
  let v478 : BitVec 32 := Scalar.addi c0_i32_436 v477
  v478.toNat
def k0_off26 (d0 : Dev nD) : Fin 3 → Nat :=
  let c4_i32_459 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let v495 : BitVec 32 := Scalar.muli c4_i32_459 v3
  let c2_i32_460 : BitVec 32 := 2#32
  let c1_i32_0 : BitVec 32 := 1#32
  let v4 : BitVec 32 := Scalar.shrsi v2 c1_i32_0
  let c1_i32_1 : BitVec 32 := 1#32
  let v5 : BitVec 32 := Scalar.andi v4 c1_i32_1
  let v496 : BitVec 32 := Scalar.muli c2_i32_460 v5
  let v497 : BitVec 32 := Scalar.addi v495 v496
  let v498 : Index := Scalar.indexCast v497
  let c0_461 : Index := 0#32
  let c0_462 : Index := 0#32
  ![v498.toNat, 0, 0]
def k0_off27 (d0 : Dev nD) (c1_i32_467 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v506 : BitVec 32 := Scalar.xori v2 c1_i32_467
  let c0_i32_476 : BitVec 32 := 0#32
  let c0_i32_477 : BitVec 32 := 0#32
  ![v506.toNat, 0, 0]
def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_468 : BitVec 32 := 1#32
  let v507 : BitVec 32 := Scalar.xori v2 c1_i32_468
  let c1_i32_471 : BitVec 32 := 1#32
  let v508 : BitVec 32 := Scalar.muli v507 c1_i32_471
  let v509 : BitVec 32 := Scalar.addi c0_i32_472 v508
  v509.toNat
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_368 : BitVec 32 := 3#32
  let v419 : BitVec 32 := Scalar.xori v2 c3_i32_368
  let v420 : BitVec 32 := Scalar.minsi v2 v419
  let v526 : Index := Scalar.indexCast v420
  let c0_495 : Index := 0#32
  let c0_496 : Index := 0#32
  ![v526.toNat, 0, 0]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_369 : BitVec 32 := 3#32
  let v421 : BitVec 32 := Scalar.xori v2 c3_i32_369
  let v422 : BitVec 32 := Scalar.maxsi v2 v421
  let v544 : Index := Scalar.indexCast v422
  let c0_519 : Index := 0#32
  let c0_520 : Index := 0#32
  ![v544.toNat, 0, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_525 : BitVec 32 := 3#32
  let v552 : BitVec 32 := Scalar.xori v2 c3_i32_525
  let c0_i32_534 : BitVec 32 := 0#32
  let c0_i32_535 : BitVec 32 := 0#32
  ![v552.toNat, 0, 0]
def k0_dev17 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_526 : BitVec 32 := 3#32
  let v553 : BitVec 32 := Scalar.xori v2 c3_i32_526
  let c1_i32_529 : BitVec 32 := 1#32
  let v554 : BitVec 32 := Scalar.muli v553 c1_i32_529
  let v555 : BitVec 32 := Scalar.addi c0_i32_530 v554
  v555.toNat
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_420 : BitVec 32 := 3#32
  let v465 : BitVec 32 := Scalar.andi v2 c3_i32_420
  let v572 : Index := Scalar.indexCast v465
  let c0_553 : Index := 0#32
  let c0_554 : Index := 0#32
  ![v572.toNat, 0, 0]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_420 : BitVec 32 := 3#32
  let v465 : BitVec 32 := Scalar.andi v2 c3_i32_420
  let c4_i32_577 : BitVec 32 := 4#32
  let v590 : BitVec 32 := Scalar.addi v465 c4_i32_577
  let v591 : Index := Scalar.indexCast v590
  let c0_578 : Index := 0#32
  let c0_579 : Index := 0#32
  ![v591.toNat, 0, 0]
def k0_dev18 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_587 : BitVec 32 := 4#32
  let v601 : BitVec 32 := Scalar.xori v2 c4_i32_587
  let c1_i32_590 : BitVec 32 := 1#32
  let v602 : BitVec 32 := Scalar.muli v601 c1_i32_590
  let v603 : BitVec 32 := Scalar.addi c0_i32_591 v602
  v603.toNat
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v623 : Index := Scalar.indexCast v2
  let c0_616 : Index := 0#32
  let c0_617 : Index := 0#32
  ![v623.toNat, 0, 0]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v643 : Index := Scalar.indexCast v2
  let c0_639 : Index := 0#32
  let c0_640 : Index := 0#32
  ![v643.toNat, 0, 0]
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Mesh.lean ====
/-
# The mesh: partners, block offsets, and the kernel's device and offset chains in closed form

Eight devices, three bits each.  A device has three partners, one in each direction: it exchanges with
`e 0 c` (device number with mask 1), `e 1 c` (mask 3) and `e 2 c` (mask 4).  Each of the fifteen remote
copies `k`, numbered in the order the kernel starts them, goes to one partner, from blocks
`[so k c, so k c + cnt k)` of one of the three accumulators to slots `[dso k, dso k + cnt k)` of the
partner's landing buffer of the same column group.
-/
module

public import proofs.«01_k».proof.Proof.Gen.KernelIdeal
public import Idealize.ShloMosaic.Lib.Tactic

@[expose] public section

set_option maxRecDepth 16384

noncomputable section

namespace Cert.KProof

open Cert.KernelIdeal Cert.KernelIdeal.Gen
open Idealize.ShloMosaic
open Idealize.ShloMosaic.TcCoe

/-- Device `c`'s partner in direction `d`: masks 1, 3 and 4. -/
def e : Fin 3 → Dev nD → Dev nD :=
  ![![1, 0, 3, 2, 5, 4, 7, 6], ![3, 2, 1, 0, 7, 6, 5, 4], ![4, 5, 6, 7, 0, 1, 2, 3]]

/-- The partner relation is symmetric. -/
theorem e_e (d : Fin 3) (c : Dev nD) : e d (e d c) = c := by revert d c; decide
/-- The partners of a device in distinct directions are distinct. -/
theorem e_inj_dir (c : Dev nD) (d d' : Fin 3) (h : e d c = e d' c) : d = d' := by revert c d d'; decide

/-- The exchange in direction `d`, as a permutation of the devices. -/
def eEquiv (d : Fin 3) : Dev nD ≃ Dev nD := ⟨e d, e d, e_e d, e_e d⟩

/-- The high, middle and folded low bit of a device number. -/
def zb (c : Dev nD) : ℕ := c.val / 4
/-- The middle bit. -/
def yb (c : Dev nD) : ℕ := c.val / 2 % 2
/-- The folded low bit. -/
def xb (c : Dev nD) : ℕ := ![0, 1, 1, 0, 0, 1, 1, 0] c

/-- The four blocks on side `t` of the first direction, in the kernel's order. -/
def sideX (t j : ℕ) : ℕ := if t = 0 then (![0, 3, 4, 7] : Fin 4 → ℕ) (Fin.ofNat 4 j) else (![1, 2, 5, 6] : Fin 4 → ℕ) (Fin.ofNat 4 j)

/-- Block `j` of those device `c` sends, and of those it keeps, in the first stage of the third group. -/
def sxs (c : Dev nD) (j : ℕ) : ℕ := sideX (1 - xb c) j
/-- Block `j` of those it keeps. -/
def sxk (c : Dev nD) (j : ℕ) : ℕ := sideX (xb c) j

/-- The smaller and the larger of a device and its partner in direction 1. -/
def lo (c : Dev nD) : ℕ := min c.val (e 1 c).val
/-- The larger of the two. -/
def hi (c : Dev nD) : ℕ := max c.val (e 1 c).val

/-! ## The fifteen copies -/

/-- The column group of copy `k`. -/
def grp : Fin 15 → Fin 3 := ![0, 1, 1, 2, 2, 2, 2, 0, 2, 2, 1, 1, 0, 2, 1]
/-- Its stage: how many partners' contributions the blocks it carries already hold. -/
def stg : Fin 15 → Fin 3 := ![0, 0, 0, 0, 0, 0, 0, 1, 1, 1, 1, 1, 2, 2, 2]
/-- The direction group `g` exchanges in at stage `s`. -/
def gdir : Fin 3 → Fin 3 → Fin 3 := ![![2, 1, 0], ![1, 0, 2], ![0, 2, 1]]
/-- The direction of copy `k`. -/
def dir (k : Fin 15) : Fin 3 := gdir (grp k) (stg k)
/-- The device copy `k` of device `c` goes to. -/
def peer (k : Fin 15) (c : Dev nD) : Dev nD := e (dir k) c
/-- How many blocks it carries. -/
def cnt : Fin 15 → ℕ := ![4, 2, 2, 1, 1, 1, 1, 2, 1, 1, 1, 1, 1, 1, 1]
/-- Its first landing slot. -/
def dso : Fin 15 → ℕ := ![0, 0, 2, 0, 1, 2, 3, 4, 4, 5, 4, 5, 6, 6, 6]
/-- Its first source block on device `c`. -/
def so (k : Fin 15) (c : Dev nD) : ℕ :=
  (![4 * (1 - zb c), 2 * (1 - yb c), 4 + 2 * (1 - yb c), sxs c 0, sxs c 1, sxs c 2, sxs c 3,
    4 * zb c + 2 * (1 - yb c), lo (e 2 c), hi (e 2 c), (e 0 c).val % 4, (e 0 c).val % 4 + 4, (e 0 c).val, (e 1 c).val,
    (e 2 c).val] : Fin 15 → ℕ) k

/-- The source blocks and the landing slots of copy `k`. -/
abbrev sslots (k : Fin 15) (c : Dev nD) : Finset ℕ := Finset.Ico (so k c) (so k c + cnt k)
/-- The landing slots of copy `k`. -/
abbrev dslots (k : Fin 15) : Finset ℕ := Finset.Ico (dso k) (dso k + cnt k)

/-- The start of the blocks that copy `k`'s landing content is added to: where the partner's copy came from. -/
def ko (k : Fin 15) (c : Dev nD) : ℕ := so k (peer k c)
/-- The blocks it is added to. -/
abbrev kslots (k : Fin 15) (c : Dev nD) : Finset ℕ := Finset.Ico (ko k c) (ko k c + cnt k)

/-- A copy's partner's partner is the device itself. -/
theorem peer_peer (k : Fin 15) (c : Dev nD) : peer k (peer k c) = c := e_e _ _
/-- Every copy takes whole blocks of its accumulator into whole slots of the landing buffer. -/
theorem so_lt (k : Fin 15) (c : Dev nD) : so k c + cnt k ≤ 8 := by revert k c; decide
/-- The landing slots lie in the landing buffer. -/
theorem dso_lt (k : Fin 15) : dso k + cnt k ≤ 7 := by revert k; decide

/-! ## The kernel's device chains -/

theorem dev1_eq (c : Dev nD) : (⟨k0_dev1 c, k0_dev1_lt c⟩ : Dev nD) = e 0 c := by revert c; decide +kernel
theorem dev2_eq (c : Dev nD) : (⟨k0_dev2 c, k0_dev2_lt c⟩ : Dev nD) = e 1 c := by revert c; decide +kernel
theorem dev3_eq (c : Dev nD) : (⟨k0_dev3 c, k0_dev3_lt c⟩ : Dev nD) = e 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 3 c := by revert c; decide +kernel
theorem dev8_eq (c : Dev nD) : (⟨k0_dev8 c, k0_dev8_lt c⟩ : Dev nD) = peer 4 c := by revert c; decide +kernel
theorem dev9_eq (c : Dev nD) : (⟨k0_dev9 c, k0_dev9_lt c⟩ : Dev nD) = peer 5 c := by revert c; decide +kernel
theorem dev10_eq (c : Dev nD) : (⟨k0_dev10 c, k0_dev10_lt c⟩ : Dev nD) = peer 6 c := by revert c; decide +kernel
theorem dev11_eq (c : Dev nD) : (⟨k0_dev11 c, k0_dev11_lt c⟩ : Dev nD) = peer 7 c := by revert c; decide +kernel
theorem dev12_eq (c : Dev nD) : (⟨k0_dev12 c, k0_dev12_lt c⟩ : Dev nD) = peer 8 c := by revert c; decide +kernel
theorem dev13_eq (c : Dev nD) : (⟨k0_dev13 c, k0_dev13_lt c⟩ : Dev nD) = peer 9 c := by revert c; decide +kernel
theorem dev14_eq (c : Dev nD) : (⟨k0_dev14 c, k0_dev14_lt c⟩ : Dev nD) = peer 10 c := by revert c; decide +kernel
theorem dev15_eq (c : Dev nD) : (⟨k0_dev15 c, k0_dev15_lt c⟩ : Dev nD) = peer 11 c := by revert c; decide +kernel
theorem dev16_eq (c : Dev nD) : (⟨k0_dev16 c, k0_dev16_lt c⟩ : Dev nD) = peer 12 c := by revert c; decide +kernel
theorem dev17_eq (c : Dev nD) : (⟨k0_dev17 c, k0_dev17_lt c⟩ : Dev nD) = peer 13 c := by revert c; decide +kernel
theorem dev18_eq (c : Dev nD) : (⟨k0_dev18 c, k0_dev18_lt c⟩ : Dev nD) = peer 14 c := by revert c; decide +kernel

/-! ## The kernel's offset chains: block offsets of the accumulators, row offsets of the left operand -/

theorem off1_eq (c : Dev nD) : k0_off1 c = ![512 * so 0 c, 0] := by revert c; decide +kernel
theorem off2_eq (c : Dev nD) : k0_off2 c = ![so 0 c, 0, 0] := by revert c; decide +kernel
theorem off3_eq (c : Dev nD) : k0_off3 c = ![so 0 c, 0, 0] := by revert c; decide +kernel
theorem off4_eq (c : Dev nD) : k0_off4 c = ![512 * so 1 c, 0] := by revert c; decide +kernel
theorem off5_eq (c : Dev nD) : k0_off5 c = ![so 1 c, 0, 0] := by revert c; decide +kernel
theorem off6_eq (c : Dev nD) : k0_off6 c = ![512 * so 2 c, 0] := by revert c; decide +kernel
theorem off7_eq (c : Dev nD) : k0_off7 c = ![so 2 c, 0, 0] := by revert c; decide +kernel
theorem off8_eq (c : Dev nD) : k0_off8 c = ![so 1 c, 0, 0] := by revert c; decide +kernel
theorem off9_eq (c : Dev nD) : k0_off9 c = ![so 2 c, 0, 0] := by revert c; decide +kernel

/-- The third group's first four copies. -/
def third : Fin 4 → Fin 15 := ![3, 4, 5, 6]
/-- The word pairs the kernel selects the third group's blocks from. -/
def pairA : Fin 4 → BitVec 32 := ![0#32, 3#32, 4#32, 7#32]
def pairB : Fin 4 → BitVec 32 := ![1#32, 2#32, 5#32, 6#32]

theorem off10_eq (c : Dev nD) (j : Fin 4) : k0_off10 c (pairA j) (pairB j) = ![512 * so (third j) c, 0] := by revert c j; decide +kernel
theorem off11_eq (c : Dev nD) (j : Fin 4) : k0_off11 c (pairA j) (pairB j) = ![so (third j) c, 0, 0] := by revert c j; decide +kernel
theorem off12_eq (c : Dev nD) (j : Fin 4) : k0_off12 c (pairA j) (pairB j) = ![so (third j) c, 0, 0] := by revert c j; decide +kernel
theorem off13_eq (c : Dev nD) : k0_off13 c = ![512 * ko 0 c, 0] := by revert c; decide +kernel
theorem off14_eq (c : Dev nD) : k0_off14 c = ![ko 0 c, 0, 0] := by revert c; decide +kernel
theorem off15_eq (c : Dev nD) : k0_off15 c = ![512 * ko 1 c, 0] := by revert c; decide +kernel
theorem off16_eq (c : Dev nD) : k0_off16 c = ![ko 1 c, 0, 0] := by revert c; decide +kernel
theorem off17_eq (c : Dev nD) : k0_off17 c = ![512 * ko 2 c, 0] := by revert c; decide +kernel
theorem off18_eq (c : Dev nD) : k0_off18 c = ![ko 2 c, 0, 0] := by revert c; decide +kernel
theorem off19_eq (c : Dev nD) (j : Fin 4) : k0_off19 c (pairA j) (pairB j) = ![512 * ko (third j) c, 0] := by revert c j; decide +kernel
theorem off20_eq (c : Dev nD) (j : Fin 4) : k0_off20 c (pairA j) (pairB j) = ![ko (third j) c, 0, 0] := by revert c j; decide +kernel
theorem off21_eq (c : Dev nD) : k0_off21 c = ![so 7 c, 0, 0] := by revert c; decide +kernel
theorem off22_eq (c : Dev nD) : k0_off22 c = ![so 8 c, 0, 0] := by revert c; decide +kernel
theorem off23_eq (c : Dev nD) : k0_off23 c = ![so 9 c, 0, 0] := by revert c; decide +kernel
theorem off24_eq (c : Dev nD) : k0_off24 c = ![so 10 c, 0, 0] := by revert c; decide +kernel
theorem off25_eq (c : Dev nD) : k0_off25 c = ![so 11 c, 0, 0] := by revert c; decide +kernel
theorem off26_eq (c : Dev nD) : k0_off26 c = ![ko 7 c, 0, 0] := by revert c; decide +kernel
theorem off27_eq0 (c : Dev nD) : k0_off27 c 1#32 = ![so 12 c, 0, 0] := by revert c; decide +kernel
theorem off27_eq1 (c : Dev nD) : k0_off27 c 4#32 = ![so 14 c, 0, 0] := by revert c; decide +kernel
theorem off28_eq (c : Dev nD) : k0_off28 c = ![ko 8 c, 0, 0] := by revert c; decide +kernel
theorem off29_eq (c : Dev nD) : k0_off29 c = ![ko 9 c, 0, 0] := by revert c; decide +kernel
theorem off30_eq (c : Dev nD) : k0_off30 c = ![so 13 c, 0, 0] := by revert c; decide +kernel
theorem off31_eq (c : Dev nD) : k0_off31 c = ![ko 10 c, 0, 0] := by revert c; decide +kernel
theorem off32_eq (c : Dev nD) : k0_off32 c = ![ko 11 c, 0, 0] := by revert c; decide +kernel
theorem off33_eq (c : Dev nD) : k0_off33 c = ![ko 13 c, 0, 0] := by revert c; decide +kernel
theorem off34_eq0 (c : Dev nD) : k0_off34 c = ![ko 12 c, 0, 0] := by revert c; decide +kernel
theorem off34_eq1 (c : Dev nD) : k0_off34 c = ![ko 14 c, 0, 0] := by revert c; decide +kernel

/-! ## How the blocks divide among the copies -/

/-- The first group's blocks: half go in the first exchange; of the kept half, half go in the second, and so on. -/
theorem slots_0 (c : Dev nD) : Finset.range 8 = sslots 0 c ∪ kslots 0 c ∧ Disjoint (sslots 0 c) (kslots 0 c) := by revert c; decide +kernel
theorem slots_7 (c : Dev nD) : kslots 0 c = sslots 7 c ∪ kslots 7 c ∧ Disjoint (sslots 7 c) (kslots 7 c) := by revert c; decide +kernel
theorem slots_12 (c : Dev nD) : kslots 7 c = sslots 12 c ∪ kslots 12 c ∧ Disjoint (sslots 12 c) (kslots 12 c) := by revert c; decide +kernel
/-- The second group's, in two halves of the accumulator until the last exchange. -/
theorem slots_1 (c : Dev nD) : Finset.Ico 0 4 = sslots 1 c ∪ kslots 1 c ∧ Disjoint (sslots 1 c) (kslots 1 c) := by revert c; decide +kernel
theorem slots_2 (c : Dev nD) : Finset.Ico 4 8 = sslots 2 c ∪ kslots 2 c ∧ Disjoint (sslots 2 c) (kslots 2 c) := by revert c; decide +kernel
theorem slots_12' (c : Dev nD) : Finset.range 8 = Finset.Ico 0 4 ∪ Finset.Ico 4 8 ∧ Disjoint (Finset.Ico 0 4) (Finset.Ico 4 8) := by decide +kernel
theorem slots_10 (c : Dev nD) : kslots 1 c = sslots 10 c ∪ kslots 10 c ∧ Disjoint (sslots 10 c) (kslots 10 c) := by revert c; decide +kernel
theorem slots_11 (c : Dev nD) : kslots 2 c = sslots 11 c ∪ kslots 11 c ∧ Disjoint (sslots 11 c) (kslots 11 c) := by revert c; decide +kernel

theorem slots_14 (c : Dev nD) : kslots 10 c ∪ kslots 11 c = sslots 14 c ∪ kslots 14 c
    ∧ Disjoint (kslots 10 c) (kslots 11 c) ∧ Disjoint (sslots 14 c) (kslots 14 c) := by revert c; decide +kernel

/-- Four sets of blocks, and that they are apart. -/
abbrev four (A B C D : Finset ℕ) : Finset ℕ := A ∪ (B ∪ (C ∪ D))
abbrev apart (A B C D : Finset ℕ) : Prop := Disjoint A (B ∪ (C ∪ D)) ∧ Disjoint B (C ∪ D) ∧ Disjoint C D
abbrev sfour (c : Dev nD) : Finset ℕ := four (sslots 3 c) (sslots 4 c) (sslots 5 c) (sslots 6 c)
abbrev kfour (c : Dev nD) : Finset ℕ := four (kslots 3 c) (kslots 4 c) (kslots 5 c) (kslots 6 c)

/-- The third group's blocks: four go in the first exchange and four stay; of these two go in the second, and one in the third. -/
theorem slots_3 (c : Dev nD) : Finset.range 8 = sfour c ∪ kfour c ∧ Disjoint (sfour c) (kfour c) := by revert c; decide +kernel
theorem apart_s (c : Dev nD) : apart (sslots 3 c) (sslots 4 c) (sslots 5 c) (sslots 6 c) := by revert c; decide +kernel
theorem apart_k (c : Dev nD) : apart (kslots 3 c) (kslots 4 c) (kslots 5 c) (kslots 6 c) := by revert c; decide +kernel
theorem slots_8 (c : Dev nD) : kfour c = four (sslots 8 c) (sslots 9 c) (kslots 8 c) (kslots 9 c)
    ∧ apart (sslots 8 c) (sslots 9 c) (kslots 8 c) (kslots 9 c) := by revert c; decide +kernel
theorem slots_13 (c : Dev nD) : kslots 8 c ∪ kslots 9 c = sslots 13 c ∪ kslots 13 c
    ∧ Disjoint (kslots 8 c) (kslots 9 c) ∧ Disjoint (sslots 13 c) (kslots 13 c) := by revert c; decide +kernel

/-- The landing slots of each group. -/
theorem land_0 : Finset.range 7 = dslots 0 ∪ (dslots 7 ∪ dslots 12) ∧ Disjoint (dslots 0) (dslots 7 ∪ dslots 12)
    ∧ Disjoint (dslots 7) (dslots 12) := by decide +kernel
theorem land_1 : Finset.range 7 = dslots 14 ∪ four (dslots 1) (dslots 2) (dslots 10) (dslots 11)
    ∧ Disjoint (dslots 14) (four (dslots 1) (dslots 2) (dslots 10) (dslots 11))
    ∧ apart (dslots 1) (dslots 2) (dslots 10) (dslots 11) := by decide +kernel
theorem land_2 : Finset.range 7 = four (dslots 3) (dslots 4) (dslots 5) (dslots 6) ∪ (dslots 8 ∪ (dslots 9 ∪ dslots 13))
    ∧ Disjoint (four (dslots 3) (dslots 4) (dslots 5) (dslots 6)) (dslots 8 ∪ (dslots 9 ∪ dslots 13))
    ∧ apart (dslots 3) (dslots 4) (dslots 5) (dslots 6)
    ∧ Disjoint (dslots 8) (dslots 9 ∪ dslots 13) ∧ Disjoint (dslots 9) (dslots 13) := by decide +kernel

end Cert.KProof

end
-- ==== Proof.Held.lean ====
/-
# Blocks of a three-axis buffer: what a device holds of it, and the rules of its loads and stores

The accumulators and the landing buffers are buffers of `D` blocks of `R × W` elements.  `held M c X V` says
that device `c` owns the blocks of `M` whose numbers lie in `X`, and that they hold the values `V` — a function
of block, row and column numbers.  Splitting, joining, loading and storing are stated on it once, for any such
buffer.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's, its duties named by direction -/

/-- The exchange's copy of the resource algebra: rounds of duties named by direction. -/
abbrev UB : Type := URounds (GSem nD τ sig) (Fin 3)
/-- Both copies. -/
abbrev UU : Type := UR sig nD τ × UB

local notation "𝕄" => MT nD τ sig Unit (Elt F) ℕ UU ℕ

/-- The pipeline's copy in the model. -/
abbrev EP : Emb (UR sig nD τ) (MT nD τ sig Unit (Elt F) ℕ UU ℕ) := embL
/-- The exchange's copy in the model. -/
abbrev ER : Emb UB (MT nD τ sig Unit (Elt F) ℕ UU ℕ) := embR

/-- The kernel needs no variants. -/
abbrev 𝒱₀ : Variants := Variants.none

/-! ## Blocks -/

/-- The shape of `D` blocks of `R × W`. -/
abbrev Sh3 (D R W : ℕ) : Shape := ⟨3, ![D, R, W]⟩

/-- The elements of the blocks numbered in `X`. -/
def slab (D R W : ℕ) (X : Finset ℕ) : Finset (Sh3 D R W).Idx := Finset.univ.filter fun i => (i 0).val ∈ X

variable {D R W : ℕ}

/-- An index lies in a slab when its block number is one of the slab's. -/
theorem mem_slab {X : Finset ℕ} {i : (Sh3 D R W).Idx} : i ∈ slab D R W X ↔ (i 0).val ∈ X := by
  unfold slab; rw [Finset.mem_filter]; exact ⟨fun h => h.2, fun h => ⟨Finset.mem_univ _, h⟩⟩

/-- The slab of a union is the union of the slabs. -/
theorem slab_union (X Y : Finset ℕ) : slab D R W (X ∪ Y) = slab D R W X ∪ slab D R W Y := by
  ext i; rw [Finset.mem_union, mem_slab, mem_slab, mem_slab, Finset.mem_union]

/-- Slabs of disjoint sets of blocks are disjoint. -/
theorem slab_disjoint {X Y : Finset ℕ} (h : Disjoint X Y) : Disjoint (slab D R W X) (slab D R W Y) := by
  rw [Finset.disjoint_left]; intro i hi hj
  exact Finset.disjoint_left.mp h (mem_slab.mp hi) (mem_slab.mp hj)

/-- A rectangle of `n` whole blocks from block `o` on is those blocks. -/
theorem set_blocks {n o : ℕ} {off : Fin 3 → ℕ} (ho : off = ![o, 0, 0])
    (inb : ∀ a, off a + (Sh3 n R W).size a ≤ (Sh3 D R W).size a) :
    (Rect.unit (s := Sh3 D R W) off (Sh3 n R W).size inb).set = slab D R W (Finset.Ico o (o + n)) := by
  subst ho
  ext i
  rw [Rect.mem_set_unit, mem_slab, Finset.mem_Ico]
  constructor
  · intro h; exact h 0
  · intro h a
    fin_cases a
    · exact h
    · exact ⟨Nat.zero_le _, by show (i 1).val < 0 + R; rw [Nat.zero_add]; exact (i 1).isLt⟩
    · exact ⟨Nat.zero_le _, by show (i 2).val < 0 + W; rw [Nat.zero_add]; exact (i 2).isLt⟩

/-- Where a rectangle of whole blocks places its index. -/
theorem emb_blocks {n o : ℕ} {off : Fin 3 → ℕ} (ho : off = ![o, 0, 0])
    (inb : ∀ a, off a + (Sh3 n R W).size a ≤ (Sh3 D R W).size a) (j : (Sh3 n R W).Idx) :
    (((Rect.unit (s := Sh3 D R W) off (Sh3 n R W).size inb).emb j) 0).val = o + (j 0).val
    ∧ (((Rect.unit (s := Sh3 D R W) off (Sh3 n R W).size inb).emb j) 1).val = (j 1).val
    ∧ (((Rect.unit (s := Sh3 D R W) off (Sh3 n R W).size inb).emb j) 2).val = (j 2).val := by
  subst ho
  refine ⟨?_, ?_, ?_⟩ <;> rw [Rect.emb_apply]
  · show o + 1 * (j 0).val = _; rw [Nat.one_mul]
  · show 0 + 1 * (j 1).val = _; rw [Nat.one_mul, Nat.zero_add]
  · show 0 + 1 * (j 2).val = _; rw [Nat.one_mul, Nat.zero_add]

section Held

variable (M : Memref sig .tc .vmem (Sh3 D R W) .bf16) (c : Dev nD)

/-- Device `c` owns the blocks of `M` numbered in `X`, holding `V`. -/
def held (X : Finset ℕ) (V : ℕ → ℕ → ℕ → F .bf16) : sProp 𝕄 :=
  iprop(∃ f : Buf (Elt F) (M.view.loc (c : Thread nD τ)),
    ⌜∀ i : (Sh3 D R W).Idx, (i 0).val ∈ X → M.view.read (Elt F) f i = V (i 0).val (i 1).val (i 2).val⌝
      ∗ (M.view.loc (c : Thread nD τ) ↦[M.view.setOn (slab D R W X)]{fullShare} f))

/-- Device `c` owns the blocks of `M` numbered in `X`, whatever they hold. -/
def owned (X : Finset ℕ) : sProp 𝕄 := iprop(∃ V : ℕ → ℕ → ℕ → F .bf16, held M c X V)

omit [FloatOps F] in
/-- Held blocks may be put in an invariant. -/
instance held_storable (X : Finset ℕ) (V : ℕ → ℕ → ℕ → F .bf16) : BI.Storable (upEmb : UEmb _ 𝕄) (held M c X V) := by
  unfold held; infer_instance

omit [FloatOps F] in
/-- So may owned ones. -/
instance owned_storable (X : Finset ℕ) : BI.Storable (upEmb : UEmb _ 𝕄) (owned (F := F) M c X) := by
  unfold owned; infer_instance

variable {M c}

omit [FloatOps F] in
/-- What blocks hold matters at those blocks only. -/
theorem held_congr {X : Finset ℕ} {V V' : ℕ → ℕ → ℕ → F .bf16} (h : ∀ b ∈ X, ∀ i j, V b i j = V' b i j) :
    (held M c X V : sProp 𝕄) ⊢ held M c X V' := by
  unfold held
  iintro ⟨%f, %hf, H⟩
  iexists f
  isplitr
  · ipureintro; intro i hi; rw [hf i hi, h _ hi]
  iexact H

omit [FloatOps F] in
/-- Held blocks are owned blocks. -/
theorem held_owned {X : Finset ℕ} {V : ℕ → ℕ → ℕ → F .bf16} : (held M c X V : sProp 𝕄) ⊢ owned M c X := by
  unfold owned; iintro H; iexists V; iexact H

omit [FloatOps F] in
/-- The locations of a union of slabs. -/
theorem setOn_union (X Y : Finset ℕ) : M.view.setOn (slab D R W (X ∪ Y)) = M.view.setOn (slab D R W X) ∪ M.view.setOn (slab D R W Y) := by
  rw [slab_union]; unfold View.setOn; rw [Finset.map_union]

omit [FloatOps F] in
/-- The locations of disjoint slabs are disjoint. -/
theorem setOn_disjoint {X Y : Finset ℕ} (h : Disjoint X Y) : Disjoint (M.view.setOn (slab D R W X)) (M.view.setOn (slab D R W Y)) := by
  unfold View.setOn; rw [Finset.disjoint_map]; exact slab_disjoint h

omit [FloatOps F] in
/-- Blocks held together are held apart. -/
theorem held_split {X Y Z : Finset ℕ} {V : ℕ → ℕ → ℕ → F .bf16} (hZ : Z = X ∪ Y) (h : Disjoint X Y) :
    (held M c Z V : sProp 𝕄) ⊢ iprop(held M c X V ∗ held M c Y V) := by
  subst hZ
  unfold held
  iintro ⟨%f, %hf, H⟩
  rw [setOn_union]
  ihave H' := ((pointsTo_union (setOn_disjoint h)).1) $$ H
  icases H' with ⟨H1, H2⟩
  isplitl [H1]
  · iexists f; isplitr
    · ipureintro; exact fun i hi => hf i (Finset.mem_union_left _ hi)
    iexact H1
  · iexists f; isplitr
    · ipureintro; exact fun i hi => hf i (Finset.mem_union_right _ hi)
    iexact H2

omit [FloatOps F] in
/-- Blocks held apart are held together, each part at its own values. -/
theorem held_join' {X Y Z : Finset ℕ} {V V' : ℕ → ℕ → ℕ → F .bf16} (hZ : Z = X ∪ Y) (h : Disjoint X Y) :
    iprop(held M c X V ∗ held M c Y V') ⊢ (held M c Z (fun b i j => if b ∈ Y then V' b i j else V b i j) : sProp 𝕄) := by
  subst hZ
  unfold held
  iintro ⟨⟨%f, %hf, H1⟩, ⟨%g, %hg, H2⟩⟩
  ihave H := (pointsTo_join (ℓ := M.view.loc (c : Thread nD τ)) (I := M.view.setOn (slab D R W X)) (J := M.view.setOn (slab D R W Y)) (setOn_disjoint (M := M) h)) $$ [H1 H2]
  · isplitl [H1] <;> iassumption
  iexists ((M.view.setOn (slab D R W Y)).piecewise g f)
  isplitr
  · ipureintro
    intro i hi
    rw [View.read_apply]
    show _ = if (i 0).val ∈ Y then V' (i 0).val (i 1).val (i 2).val else V (i 0).val (i 1).val (i 2).val
    by_cases hy : (i 0).val ∈ Y
    · rw [if_pos hy, Finset.piecewise_eq_of_mem _ _ _ (M.view.mem_setOn.mpr (mem_slab.mpr hy)), ← View.read_apply, hg i hy]
    · rw [if_neg hy, Finset.piecewise_eq_of_notMem _ _ _ (fun h' => hy (mem_slab.mp (M.view.mem_setOn.mp h'))), ← View.read_apply,
        hf i ((Finset.mem_union.mp hi).resolve_right hy)]
  rw [setOn_union]
  iexact H

omit [FloatOps F] in
/-- Blocks of one value function held apart are held together. -/
theorem held_join {X Y Z : Finset ℕ} {V : ℕ → ℕ → ℕ → F .bf16} (hZ : Z = X ∪ Y) (h : Disjoint X Y) :
    iprop(held M c X V ∗ held M c Y V) ⊢ (held M c Z V : sProp 𝕄) :=
  (held_join' hZ h).trans (held_congr fun b _ i j => ite_self _)

omit [FloatOps F] in
/-- Owned blocks split along a division of their numbers. -/
theorem owned_split {X Y Z : Finset ℕ} (hZ : Z = X ∪ Y) (h : Disjoint X Y) :
    (owned (F := F) M c Z : sProp 𝕄) ⊢ iprop(owned M c X ∗ owned M c Y) := by
  unfold owned
  iintro ⟨%V, H⟩
  ihave H' := (held_split hZ h) $$ H
  icases H' with ⟨H1, H2⟩
  isplitl [H1] <;> (iexists V; iassumption)

omit [FloatOps F] in
/-- They join again. -/
theorem owned_join {X Y Z : Finset ℕ} (hZ : Z = X ∪ Y) (h : Disjoint X Y) :
    iprop(owned M c X ∗ owned M c Y) ⊢ (owned (F := F) M c Z : sProp 𝕄) := by
  unfold owned
  iintro ⟨⟨%V, H1⟩, ⟨%V', H2⟩⟩
  iexists _
  iapply (held_join' hZ h)
  isplitl [H1] <;> iassumption

/-! ## Loads and stores of whole blocks -/

/-- A load of `n` blocks from block `o` on reads what they hold. -/
theorem wp_load_held {n o : ℕ} {off : Fin 3 → ℕ} (ho : off = ![o, 0, 0])
    {inb : ∀ a, off a + (Sh3 n R W).size a ≤ (Sh3 D R W).size a}
    {X : Finset ℕ} {V : ℕ → ℕ → ℕ → F .bf16} (hX : Finset.Ico o (o + n) ⊆ X)
    {hl : M.view.LoadsAt (Rect.unit (s := Sh3 D R W) off (Sh3 n R W).size inb).toLoadRect}
    {α : Type} {Q : α → sProp 𝕄} {k : ((Sh3 n R W).Idx → Elt F .bf16) → Prog (TpuEff nD τ sig (Elt F) Λ₀ .tc) α} :
    (held M c X V : sProp 𝕄)
      ⊢ iprop((held M c X V -∗ wp frame (wpE (defs₀ (F := F)) 𝒱₀ (c : Thread nD τ) none) Set.univ
            (k (fun j => V (o + (j 0).val) (j 1).val (j 2).val)) Q)
          -∗ wp frame (wpE (defs₀ (F := F)) 𝒱₀ (c : Thread nD τ) none) Set.univ
            (.op (.load M (Rect.unit (s := Sh3 D R W) off (Sh3 n R W).size inb).toLoadRect hl) k) Q) := by
  unfold held
  iintro ⟨%f, %hf, H⟩ Hk
  iapply (wp_load 𝒱₀ (c : Thread nD τ) none Set.univ (m := M)
    (r := (Rect.unit (s := Sh3 D R W) off (Sh3 n R W).size inb).toLoadRect)
    (S := M.view.setOn (slab D R W X)) (by
      refine Finset.map_subset_map.mpr ?_
      rw [show (Rect.unit (s := Sh3 D R W) off (Sh3 n R W).size inb).toLoadRect.set = _ from set_blocks ho inb]
      intro i hi; exact mem_slab.mpr (hX (mem_slab.mp hi)))) $$ H
  iintro H
  have hv : M.view.readAt (Elt F) (Rect.unit (s := Sh3 D R W) off (Sh3 n R W).size inb).toLoadRect f
      = fun j => V (o + (j 0).val) (j 1).val (j 2).val := by
    funext j
    obtain ⟨h0, h1, h2⟩ := emb_blocks ho inb j
    rw [View.readAt_apply]
    refine (hf _ ?_).trans ?_
    · refine hX (Finset.mem_Ico.mpr ?_)
      have := (j 0).isLt
      rw [show ((Rect.unit (s := Sh3 D R W) off (Sh3 n R W).size inb).toLoadRect.idx j 0).val = o + (j 0).val from h0]
      exact ⟨Nat.le_add_right _ _, Nat.add_lt_add_left this _⟩
    · exact congr (congr (congrArg V h0) h1) h2
  rw [hv]
  iapply Hk
  iexists f
  isplitr
  · ipureintro; exact hf
  iexact H

/-- A store of `n` blocks from block `o` on leaves them holding what was stored. -/
theorem wp_store_held {n o : ℕ} {off : Fin 3 → ℕ} (ho : off = ![o, 0, 0])
    {inb : ∀ a, off a + (Sh3 n R W).size a ≤ (Sh3 D R W).size a}
    {V : ℕ → ℕ → ℕ → F .bf16} (V' : ℕ → ℕ → ℕ → F .bf16)
    {w : (Sh3 n R W).Idx → Elt F .bf16} (hw : ∀ j, w j = V' (o + (j 0).val) (j 1).val (j 2).val)
    {hx : (M.access (Rect.unit (s := Sh3 D R W) off (Sh3 n R W).size inb)).Stores Finset.univ}
    {hm : (Finset.univ : Finset (Sh3 n R W).Idx) = Finset.univ ∨ ∀ a, (Rect.unit (s := Sh3 D R W) off (Sh3 n R W).size inb).stride a = 1}
    {α : Type} {Q : α → sProp 𝕄} {k : PUnit → Prog (TpuEff nD τ sig (Elt F) Λ₀ .tc) α} :
    (held M c (Finset.Ico o (o + n)) V : sProp 𝕄)
      ⊢ iprop((held M c (Finset.Ico o (o + n)) V' -∗ wp frame (wpE (defs₀ (F := F)) 𝒱₀ (c : Thread nD τ) none) Set.univ (k ⟨⟩) Q)
          -∗ wp frame (wpE (defs₀ (F := F)) 𝒱₀ (c : Thread nD τ) none) Set.univ
            (.op (.store M (Rect.unit (s := Sh3 D R W) off (Sh3 n R W).size inb) w Finset.univ hx hm) k) Q) := by
  unfold held
  iintro ⟨%f, %hf, H⟩ Hk
  have hset : (M.access (Rect.unit (s := Sh3 D R W) off (Sh3 n R W).size inb)).setOn Finset.univ
      = M.view.setOn (slab D R W (Finset.Ico o (o + n))) := by
    rw [View.setOn_univ, View.set_slice, set_blocks ho inb]; rfl
  iapply (wp_store 𝒱₀ (c : Thread nD τ) none Set.univ (m := M) (r := Rect.unit (s := Sh3 D R W) off (Sh3 n R W).size inb)
    (Mk := Finset.univ) (S := M.view.setOn (slab D R W (Finset.Ico o (o + n)))) (subset_of_eq hset)) $$ H
  iintro H
  iapply Hk
  iexists _
  isplitr
  · ipureintro
    swap
    · exact (M.access (Rect.unit (s := Sh3 D R W) off (Sh3 n R W).size inb)).write (Elt F) f w Finset.univ
    intro i hi
    obtain ⟨j, rfl⟩ := LoadRect.exists_idx_of_mem (r := (Rect.unit (s := Sh3 D R W) off (Sh3 n R W).size inb).toLoadRect) (i := i)
      (by rw [show (Rect.unit (s := Sh3 D R W) off (Sh3 n R W).size inb).toLoadRect.set = _ from set_blocks ho inb]; exact mem_slab.mpr hi)
    obtain ⟨h0, h1, h2⟩ := emb_blocks ho inb j
    have h3 := View.read_slice_write_emb (v := M.view) (Val := Elt F) (Rect.unit (s := Sh3 D R W) off (Sh3 n R W).size inb) f w (M := Finset.univ) (x := j) (Finset.mem_univ _)
    refine h3.trans ((hw j).trans ?_)
    exact (congr (congr (congrArg V' h0) h1) h2).symm
  iexact H

end Held

end Cert.KProof

end
-- ==== Proof.Values.lean ====
/-
# The values the kernel computes, element by element, over any float values

`part x w c r n` is device `c`'s own contribution to entry `(r, n)` of the product: the exact integer dot
product of row `r` of its left operand with column `n` of its right operand, as an i32 word, rounded to bf16.
`Sv x w g s c r n` is what the accumulators of column group `g` hold after `s` exchanges: the device's own
running sum plus its partner's, the partners taken in the group's order of directions.
-/
module

public import proofs.«01_k».proof.Proof.Held
public import Idealize.ShloMosaic.Lib.MatmulPlain
public import Idealize.ShloMosaic.Lib.IntMxu
public import Idealize.ShloMosaic.Lib.Pipeline.Value
public import Idealize.ShloMosaic.Lib.ValueLayout

@[expose] public section

set_option maxRecDepth 16384

noncomputable section

namespace Cert.KProof

open Cert.KernelIdeal Cert.KernelIdeal.Gen
open Idealize.ShloMosaic
open Idealize.ShloMosaic.TcCoe
open Idealize.ShloMosaic.ValueIdx

variable {F : FTy → Type} [FloatOps F]

/-- A matrix read at row and column numbers (taken modulo the extents). -/
def at2 {α : Type} {A B : ℕ} [NeZero A] [NeZero B] (f : (⟨2, ![A, B]⟩ : Shape).Idx → α) (r n : ℕ) : α :=
  f (ix2 (Fin.ofNat A r) (Fin.ofNat B n))

theorem at2_idx {α : Type} {A B : ℕ} [NeZero A] [NeZero B] (f : (⟨2, ![A, B]⟩ : Shape).Idx → α) (i : (⟨2, ![A, B]⟩ : Shape).Idx)
    {r n : ℕ} (hr : (i 0).val = r) (hn : (i 1).val = n) : at2 f r n = f i := by
  subst hr hn
  unfold at2
  refine congrArg f ?_
  funext a
  match a with
  | ⟨0, _⟩ => exact Fin.ext (Nat.mod_eq_of_lt (idx2_lt0 i))
  | ⟨1, _⟩ => exact Fin.ext (Nat.mod_eq_of_lt (idx2_lt1 i))

/-- The first column of each group. -/
def col : Fin 3 → ℕ := ![0, 640, 1280]

section Sums

variable (x : Dev nD → (⟨2, ![4096, 512]⟩ : Shape).Idx → BitVec 8) (w : Dev nD → (⟨2, ![512, 2048]⟩ : Shape).Idx → BitVec 8)

/-- The integer dot product of row `r` of device `c`'s left operand and column `n` of its right operand. -/
def dotN (c : Dev nD) (r n : ℕ) : ℤ := ∑ k : Fin 512, (at2 (x c) r k.val).toInt * (at2 (w c) k.val n).toInt

/-- Device `c`'s own contribution to entry `(r, n)`, as a bf16. -/
def part (c : Dev nD) (r n : ℕ) : F .bf16 := FloatOps.sitofp .bf16 (BitVec.ofInt 32 (dotN x w c r n))

/-- The running sum of group `g` after `s` exchanges. -/
def Sv (g : Fin 3) : ℕ → Dev nD → ℕ → ℕ → F .bf16
  | 0, c, r, n => part x w c r n
  | s + 1, c, r, n => FloatOps.addf (Sv g s c r n) (Sv g s (e (gdir g (Fin.ofNat 3 s)) c) r n)

/-- The same, by block, row within the block, and column within the group. -/
def SB (g : Fin 3) (s : ℕ) (c : Dev nD) (b i j : ℕ) : F .bf16 := Sv x w g s c (512 * b + i) (col g + j)

/-- What lands in a landing buffer's slots from copy `k` of a device: from slot `dso k` on, the sender's blocks from
    `so k` on. -/
def RV (k : Fin 15) (c : Dev nD) (b i j : ℕ) : F .bf16 :=
  SB x w (grp k) (stg k).val (peer k c) (so k (peer k c) + (b - dso k)) i j

/-- Rows of the left operand from block `o` on; columns of the right operand from column `a` on. -/
def xrows (N o : ℕ) (c : Dev nD) : (⟨2, ![N, 512]⟩ : Shape).Idx → BitVec 8 := fun j => at2 (x c) (512 * o + (j 0).val) (j 1).val
def wcols (W a : ℕ) (c : Dev nD) : (⟨2, ![512, W]⟩ : Shape).Idx → BitVec 8 := fun j => at2 (w c) (j 0).val (a + (j 1).val)

/-- One block product: the rows from block `o` on times the columns of group `g`, rounded and cut into blocks, is the
    blocks' own contributions. -/
theorem mm_blocks {n W N : ℕ} (g : Fin 3) (hN : N = n * 512) (o : ℕ) (c : Dev nD)
    (h : (⟨2, ![N, W]⟩ : Shape).ShapeCasts (Sh3 n 512 W)) (j : (Sh3 n 512 W).Idx) :
    shapeCast (Sh3 n 512 W) (sitofp (F := F) .bf16 (matmulI8 IntMxuNumerics.v7x (DotDims.plain N 512 W)
      (xrows x N o c) (wcols w W (col g) c) (constantI (⟨2, ![N, W]⟩ : Shape) 32 0#32))) h j
      = SB x w g 0 c (o + (j 0).val) (j 1).val (j 2).val := by
  have h0 : (j 0).val < n := (j 0).isLt
  have h1 : (j 1).val < 512 := (j 1).isLt
  have h2 : (j 2).val < W := (j 2).isLt
  have hr : 512 * (j 0).val + (j 1).val < N := by omega
  rw [shapeCast_apply _ h j (ix2 ⟨512 * (j 0).val + (j 1).val, hr⟩ ⟨(j 2).val, h2⟩) (by
    rw [Shape.rowMajor_val_two, Shape.rowMajor_val_three]
    show (512 * (j 0).val + (j 1).val) * W + (j 2).val = ((j 0).val * 512 + (j 1).val) * W + (j 2).val
    rw [Nat.mul_comm 512])]
  show FloatOps.sitofp .bf16 (matmulI8 _ _ _ _ _ _) = _
  rw [matmulI8_exact_of_numel IntMxuNumerics.v7x (DotDims.plain N 512 W) _ _ _ _ rfl
    (by rw [show (DotDims.plain N 512 W).contr.numel = 512 from by
          show ∏ a : Fin 1, (Shape.ofList [512]).size (Fin.cast rfl a) = 512
          rw [Fin.prod_univ_one]; rfl]; decide)]
  unfold SB Sv part
  refine congrArg (fun z => FloatOps.sitofp .bf16 (BitVec.ofInt 32 z)) ?_
  unfold dotI8 dotN
  rw [← Equiv.sum_comp (DotDims.plainContr N 512 W).symm]
  refine Finset.sum_congr rfl fun k _ => ?_
  have hk := contrEquiv1_symm_val _ 512 (DotDims.plain_contr_rank N 512 W) (DotDims.plain_contr_size N 512 W) k
  have el : (DotDims.plain N 512 W).lhsIdx (ix2 ⟨512 * (j 0).val + (j 1).val, hr⟩ ⟨(j 2).val, h2⟩) ((DotDims.plainContr N 512 W).symm k)
      = ix2 ⟨512 * (j 0).val + (j 1).val, hr⟩ k := by
    funext a; apply Fin.ext
    match a with
    | ⟨0, _⟩ => rfl
    | ⟨1, _⟩ => exact hk
  have er : (DotDims.plain N 512 W).rhsIdx (ix2 ⟨512 * (j 0).val + (j 1).val, hr⟩ ⟨(j 2).val, h2⟩) ((DotDims.plainContr N 512 W).symm k)
      = ix2 k ⟨(j 2).val, h2⟩ := by
    funext a; apply Fin.ext
    match a with
    | ⟨0, _⟩ => exact hk
    | ⟨1, _⟩ => rfl
  rw [el, er]
  show (at2 (x c) (512 * o + (512 * (j 0).val + (j 1).val)) k.val).toInt * (at2 (w c) k.val (col g + (j 2).val)).toInt = _
  rw [show 512 * o + (512 * (j 0).val + (j 1).val) = 512 * (o + (j 0).val) + (j 1).val by omega]

/-! ## The kernel's stored values -/

variable (c : Dev nD) (o : ℕ)

theorem pay1_eq : k0_pay1 (F := F) (wcols w 640 (col 0) c) = wcols w 640 (col 0) c := shapeCast_self _ _
theorem pay2_eq : k0_pay2 (F := F) (wcols w 640 (col 1) c) = wcols w 640 (col 1) c := shapeCast_self _ _
theorem pay3_eq : k0_pay3 (F := F) (wcols w 768 (col 2) c) = wcols w 768 (col 2) c := shapeCast_self _ _

theorem pay4_eq (j : S4x512x640.Idx) : k0_pay4 (F := F) (wcols w 640 (col 0) c) (xrows x 2048 o c) j = SB x w 0 0 c (o + (j 0).val) (j 1).val (j 2).val := by
  unfold k0_pay4; dsimp only; rw [shapeCast_self, shapeCast_self]; exact mm_blocks x w 0 rfl o c _ j
theorem pay12_eq (j : S4x512x640.Idx) : k0_pay12 (F := F) (wcols w 640 (col 0) c) (xrows x 2048 o c) j = SB x w 0 0 c (o + (j 0).val) (j 1).val (j 2).val := by
  unfold k0_pay12; dsimp only; rw [shapeCast_self, shapeCast_self]; exact mm_blocks x w 0 rfl o c _ j
theorem pay6_eq (j : S2x512x640.Idx) : k0_pay6 (F := F) (k0_pay5 (wcols w 640 (col 1) c) (xrows x 1024 o c)) j = SB x w 1 0 c (o + (j 0).val) (j 1).val (j 2).val := by
  unfold k0_pay6 k0_pay5; dsimp only; rw [shapeCast_self, shapeCast_self]; exact mm_blocks x w 1 rfl o c _ j
theorem pay7_eq (j : S2x512x640.Idx) : k0_pay7 (F := F) (wcols w 640 (col 1) c) (xrows x 1024 o c) j = SB x w 1 0 c (o + (j 0).val) (j 1).val (j 2).val := by
  unfold k0_pay7; dsimp only; rw [shapeCast_self, shapeCast_self]; exact mm_blocks x w 1 rfl o c _ j
theorem pay13_eq (j : S2x512x640.Idx) : k0_pay13 (F := F) (wcols w 640 (col 1) c) (xrows x 1024 o c) j = SB x w 1 0 c (o + (j 0).val) (j 1).val (j 2).val := by
  unfold k0_pay13; dsimp only; rw [shapeCast_self, shapeCast_self]; exact mm_blocks x w 1 rfl o c _ j
theorem pay15_eq (j : S2x512x640.Idx) : k0_pay15 (F := F) (k0_pay14 (wcols w 640 (col 1) c) (xrows x 1024 o c)) j = SB x w 1 0 c (o + (j 0).val) (j 1).val (j 2).val := by
  unfold k0_pay15 k0_pay14; dsimp only; rw [shapeCast_self, shapeCast_self]; exact mm_blocks x w 1 rfl o c _ j
theorem pay8_eq (j : S1x512x768.Idx) : k0_pay8 (F := F) (wcols w 768 (col 2) c) (xrows x 512 o c) j = SB x w 2 0 c (o + (j 0).val) (j 1).val (j 2).val := by
  unfold k0_pay8; dsimp only; rw [shapeCast_self, shapeCast_self]; exact mm_blocks x w 2 rfl o c _ j

omit c o in
/-- One exchange: the device's own running sum plus what landed is the running sum after one more exchange. -/
theorem add_RV (k : Fin 15) (c : Dev nD) (a i j : ℕ) :
    FloatOps.addf (SB (F := F) x w (grp k) (stg k).val c (ko k c + a) i j) (RV x w k c (dso k + a) i j)
      = SB x w (grp k) ((stg k).val + 1) c (ko k c + a) i j := by
  unfold RV SB
  rw [Nat.add_sub_cancel_left]
  show _ = FloatOps.addf _ (Sv x w (grp k) (stg k).val (e (gdir (grp k) (Fin.ofNat 3 (stg k).val)) c) _ _)
  rw [Fin.ofNat_val_eq_self]
  rfl

end Sums

/-! ## The kernel's sums -/

theorem pay9_eq : @k0_pay9 F _ = k0_pay8 := rfl
theorem pay10_eq : @k0_pay10 F _ = k0_pay8 := rfl
theorem pay11_eq : @k0_pay11 F _ = k0_pay8 := rfl
theorem pay16_eq : @k0_pay16 F _ = k0_pay8 := rfl
theorem pay17_eq : @k0_pay17 F _ = k0_pay8 := rfl
theorem pay18_eq : @k0_pay18 F _ = k0_pay8 := rfl
theorem pay19_eq : @k0_pay19 F _ = k0_pay8 := rfl

theorem pay20_eq (a b : S1x512x768.Idx → F .bf16) : k0_pay20 a b = fun j => FloatOps.addf (a j) (b j) := shapeCast_self _ _
theorem pay22_eq (a b : S1x512x768.Idx → F .bf16) : k0_pay22 (k0_pay21 a b) = fun j => FloatOps.addf (a j) (b j) := shapeCast_self _ _
theorem pay23_eq (a b : S2x512x640.Idx → F .bf16) : k0_pay23 a b = fun j => FloatOps.addf (a j) (b j) := shapeCast_self _ _
theorem pay24_eq (a b : S1x512x768.Idx → F .bf16) : k0_pay24 a b = fun j => FloatOps.addf (a j) (b j) := shapeCast_self _ _
theorem pay25_eq (a b : S1x512x768.Idx → F .bf16) : k0_pay25 a b = fun j => FloatOps.addf (a j) (b j) := shapeCast_self _ _
theorem pay26_eq (a b : S4x512x640.Idx → F .bf16) : k0_pay26 a b = fun j => FloatOps.addf (a j) (b j) := shapeCast_self _ _
theorem pay27_eq (a b : S2x512x640.Idx → F .bf16) : k0_pay27 a b = fun j => FloatOps.addf (a j) (b j) := shapeCast_self _ _
theorem pay28_eq (a b : S2x512x640.Idx → F .bf16) : k0_pay28 a b = fun j => FloatOps.addf (a j) (b j) := shapeCast_self _ _
theorem pay29_eq (a b : S1x512x768.Idx → F .bf16) : k0_pay29 a b = fun j => FloatOps.addf (a j) (b j) := shapeCast_self _ _
theorem pay30_eq (a b : S1x512x768.Idx → F .bf16) : k0_pay30 a b = fun j => FloatOps.addf (a j) (b j) := shapeCast_self _ _
theorem pay31_eq (a b : S1x512x640.Idx → F .bf16) : k0_pay31 a b = fun j => FloatOps.addf (a j) (b j) := shapeCast_self _ _
theorem pay32_eq (a b : S1x512x640.Idx → F .bf16) : k0_pay32 a b = fun j => FloatOps.addf (a j) (b j) := shapeCast_self _ _

/-- The scaled entry: a bf16 sum widened to f32 and multiplied by the scale. -/
def scaled (v : F .f32) (a : F .bf16) : F .f32 := FloatOps.mulf (FloatOps.extf .f32 bitsLt_bf16_f32 a) v

theorem pay34_eq (v : F .f32) (a b : S1x512x768.Idx → F .bf16) (i : Fin 512) (j : Fin 768) :
    k0_pay34 v a b (ix2 i j) = scaled v (FloatOps.addf (a (ix3 (0 : Fin 1) i j)) (b (ix3 (0 : Fin 1) i j))) := by
  rw [← shapeCast_1ab_ab_apply a shapeCasts_S1x512x768_S512x768, ← shapeCast_1ab_ab_apply b shapeCasts_S1x512x768_S512x768]; rfl
theorem pay35_eq (v : F .f32) (a b : S1x512x640.Idx → F .bf16) (i : Fin 512) (j : Fin 640) :
    k0_pay35 v a b (ix2 i j) = scaled v (FloatOps.addf (a (ix3 (0 : Fin 1) i j)) (b (ix3 (0 : Fin 1) i j))) := by
  rw [← shapeCast_1ab_ab_apply a shapeCasts_S1x512x640_S512x640, ← shapeCast_1ab_ab_apply b shapeCasts_S1x512x640_S512x640]; rfl
theorem pay36_eq : @k0_pay36 F _ = k0_pay35 := rfl

end Cert.KProof

end
-- ==== Proof.Sched.lean ====
/-
# The protocol: cells, the schedule of duties, levels, and the rules of one exchange

Every device signals each of its three partners' barrier semaphore once; the signal in direction `d` hands the
partner the landing slots of the copies that partner sends in that direction.  After its barrier wait of three a
device owns every landing slot it will write.  Copy `k` then has a send cell on the sender, which gives the source
blocks back, and a receive cell on the receiver, which gives it the landing slots holding the sender's running sums.

Levels: a barrier cell is at 1, the receive cell of copy `k` at `2 + k`, everything else at 0.  A device starts its
copies in order and waits, at each point, only for copies it has already started, so each wait is below all it still
owes.
-/
module

public import proofs.«01_k».proof.Proof.Values

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The barrier semaphore of the exchange. -/
abbrev barS : Sem sig := (SemArray.scalar (sig.barrier 0 rfl) : Sems sig S_).sem

/-- The send and receive semaphores of each copy, and which copy and side a transfer semaphore belongs to. -/
def sndN : Fin 15 → Fin 35 := ![5, 11, 12, 21, 22, 23, 24, 6, 25, 26, 13, 14, 7, 27, 15]
/-- The receive semaphore's number, by copy. -/
def rcvN : Fin 15 → Fin 35 := ![8, 16, 17, 28, 29, 30, 31, 9, 32, 33, 18, 19, 10, 34, 20]
/-- The side and copy of a transfer semaphore. -/
def dmaKind : Fin 35 → Option (Bool × Fin 15) :=
  ![none, none, none, none, none, some (false, 0), some (false, 7), some (false, 12), some (true, 0), some (true, 7), some (true, 12),
    some (false, 1), some (false, 2), some (false, 10), some (false, 11), some (false, 14),
    some (true, 1), some (true, 2), some (true, 10), some (true, 11), some (true, 14),
    some (false, 3), some (false, 4), some (false, 5), some (false, 6), some (false, 8), some (false, 9), some (false, 13),
    some (true, 3), some (true, 4), some (true, 5), some (true, 6), some (true, 8), some (true, 9), some (true, 13)]

/-- Copy `k`'s send semaphore. -/
abbrev sndS (k : Fin 15) : DmaSem sig := (sndN k : Fin 35)
/-- Copy `k`'s receive semaphore. -/
abbrev rcvS (k : Fin 15) : DmaSem sig := (rcvN k : Fin 35)

/-- A cell's role: the barrier, or a side (`true`: receive) and a copy. -/
abbrev Role : Type := Option (Bool × Fin 15)

/-- The semaphore of a role, and the role of a semaphore. -/
def csem : Role → SemLoc sig
  | none => .reg barS
  | some (false, k) => .dma (sndS k)
  | some (true, k) => .dma (rcvS k)
/-- The role of a semaphore, if it has one. -/
def roleOf : SemLoc sig → Option Role
  | .reg s => if s = barS then some none else none
  | .dma s => (dmaKind s).map some

/-- A role's semaphore has that role. -/
theorem roleOf_csem (i : Role) : roleOf (csem i) = some i := by
  rcases i with _ | ⟨_ | _, k⟩
  · simp [roleOf, csem]
  · show (dmaKind (sndN k)).map some = _; revert k; decide
  · show (dmaKind (rcvN k)).map some = _; revert k; decide

/-- The cell of a device and role. -/
abbrev kcell (ci : Dev nD × Role) : GSem nD τ sig := ((ci.1 : Thread nD τ), csem ci.2)
/-- Device `c`'s barrier cell. -/
abbrev barCell (c : Dev nD) : GSem nD τ sig := ((c : Thread nD τ), .reg barS)
/-- Its send cell of copy `k`. -/
abbrev sndCell (k : Fin 15) (c : Dev nD) : GSem nD τ sig := ((c : Thread nD τ), .dma (sndS k))
/-- Its receive cell of copy `k`. -/
abbrev rcvCell (k : Fin 15) (c : Dev nD) : GSem nD τ sig := ((c : Thread nD τ), .dma (rcvS k))

/-- The barrier's role. -/
theorem roleOf_bar : roleOf (.reg barS) = some none := roleOf_csem none
/-- A send semaphore's role. -/
theorem roleOf_snd (k : Fin 15) : roleOf (.dma (sndS k)) = some (some (false, k)) := roleOf_csem (some (false, k))
/-- A receive semaphore's role. -/
theorem roleOf_rcv (k : Fin 15) : roleOf (.dma (rcvS k)) = some (some (true, k)) := roleOf_csem (some (true, k))

/-- Distinct devices or roles have distinct cells. -/
theorem kcell_injective : Function.Injective kcell := by
  rintro ⟨c, i⟩ ⟨c', i'⟩ h
  have h1 : c = c' := congrArg (fun g : GSem nD τ sig => g.1.1) h
  have h2 : csem i = csem i' := congrArg Prod.snd h
  have h3 : i = i' := Option.some.inj (by rw [← roleOf_csem i, ← roleOf_csem i', h2])
  rw [h1, h3]

/-- The credit of copy `k`. -/
def amt (k : Fin 15) : ℕ := (![81920, 40960, 40960, 24576, 24576, 24576, 24576, 40960, 24576, 24576, 20480, 20480, 20480, 24576, 20480] : Fin 15 → ℕ) k
/-- Every copy's credit is positive. -/
theorem amt_pos (k : Fin 15) : 0 < amt k := by revert k; decide

/-! ## What a device holds of its accumulators and landing buffers -/

/-- Device `c` holds blocks `X` of group `g`'s accumulator, with values `V`. -/
def accHeld (g : Fin 3) (c : Dev nD) (X : Finset ℕ) (V : ℕ → ℕ → ℕ → F .bf16) : sProp 𝕄 :=
  match g with
  | 0 => held (D := 8) (R := 512) (W := 640) (Memref.whole cc0_scratch0) c X V
  | 1 => held (D := 8) (R := 512) (W := 640) (Memref.whole cc0_scratch1) c X V
  | 2 => held (D := 8) (R := 512) (W := 768) (Memref.whole cc0_scratch2) c X V
/-- Device `c` holds slots `X` of group `g`'s landing buffer, with values `V`. -/
def rcvHeld (g : Fin 3) (c : Dev nD) (X : Finset ℕ) (V : ℕ → ℕ → ℕ → F .bf16) : sProp 𝕄 :=
  match g with
  | 0 => held (D := 7) (R := 512) (W := 640) (Memref.whole cc0_scratch3) c X V
  | 1 => held (D := 7) (R := 512) (W := 640) (Memref.whole cc0_scratch4) c X V
  | 2 => held (D := 7) (R := 512) (W := 768) (Memref.whole cc0_scratch5) c X V

/-- Held accumulator blocks may be put in an invariant. -/
instance accHeld_storable (g : Fin 3) (c : Dev nD) (X : Finset ℕ) (V : ℕ → ℕ → ℕ → F .bf16) :
    BI.Storable (upEmb : UEmb _ 𝕄) (accHeld g c X V) := by
  match g with
  | 0 => unfold accHeld; infer_instance
  | 1 => unfold accHeld; infer_instance
  | 2 => unfold accHeld; infer_instance
/-- So may held landing slots. -/
instance rcvHeld_storable (g : Fin 3) (c : Dev nD) (X : Finset ℕ) (V : ℕ → ℕ → ℕ → F .bf16) :
    BI.Storable (upEmb : UEmb _ 𝕄) (rcvHeld g c X V) := by
  match g with
  | 0 => unfold rcvHeld; infer_instance
  | 1 => unfold rcvHeld; infer_instance
  | 2 => unfold rcvHeld; infer_instance

/-- The landing slots of copy `k` on the device `p` it goes to, with whatever they hold. -/
def land (k : Fin 15) (p : Dev nD) : sProp 𝕄 := iprop(∃ V : ℕ → ℕ → ℕ → F .bf16, rcvHeld (grp k) p (dslots k) V)

/-- So may a copy's landing slots. -/
instance land_storable (k : Fin 15) (p : Dev nD) : BI.Storable (upEmb : UEmb _ 𝕄) (land (F := F) k p) := by
  unfold land; infer_instance

/-! ## The schedule -/

/-- What the signal in direction `d` hands device `c`: the partner's landing slots of the copies `c` sends that way. -/
def barPay (d : Fin 3) (c : Dev nD) : sProp 𝕄 :=
  match d with
  | 0 => iprop(land (F := F) 3 (peer 3 c) ∗ land (F := F) 4 (peer 4 c) ∗ land (F := F) 5 (peer 5 c) ∗ land (F := F) 6 (peer 6 c)
      ∗ land (F := F) 10 (peer 10 c) ∗ land (F := F) 11 (peer 11 c) ∗ land (F := F) 12 (peer 12 c))
  | 1 => iprop(land (F := F) 1 (peer 1 c) ∗ land (F := F) 2 (peer 2 c) ∗ land (F := F) 7 (peer 7 c) ∗ land (F := F) 13 (peer 13 c))
  | 2 => iprop(land (F := F) 0 (peer 0 c) ∗ land (F := F) 8 (peer 8 c) ∗ land (F := F) 9 (peer 9 c) ∗ land (F := F) 14 (peer 14 c))

/-- So may what a signal hands over. -/
instance barPay_storable (d : Fin 3) (c : Dev nD) : BI.Storable (upEmb : UEmb _ 𝕄) (barPay (F := F) d c) := by
  match d with
  | 0 => unfold barPay; infer_instance
  | 1 => unfold barPay; infer_instance
  | 2 => unfold barPay; infer_instance

variable (x : Dev nD → (⟨2, ![4096, 512]⟩ : Shape).Idx → BitVec 8) (w : Dev nD → (⟨2, ![512, 2048]⟩ : Shape).Idx → BitVec 8)

/-- What copy `k`'s send cell gives back, and what its receive cell gives. -/
def sndPay (k : Fin 15) (c : Dev nD) : sProp 𝕄 := accHeld (grp k) c (sslots k c) (SB (F := F) x w (grp k) (stg k).val c)
/-- What copy `k`'s receive cell gives: the landing slots with what the partner sent. -/
def rcvPay (k : Fin 15) (c : Dev nD) : sProp 𝕄 := rcvHeld (grp k) c (dslots k) (RV (F := F) x w k c)

/-- One round per cell: a barrier cell has one duty of one unit per direction, a transfer cell one of its copy's credit. -/
def sch : Rounds.Schedule (GSem nD τ sig) (Fin 3) 𝕄 where
  duties g r := if r = 0 ∧ g.1.2 = .tc then (match roleOf g.2 with | some none => Finset.univ | some (some _) => {0} | none => ∅) else ∅
  unitless _ := False
  amount g _ _ := match roleOf g.2 with | some (some (_, k)) => amt k | _ => 1
  payload g _ d := match roleOf g.2 with
    | some none => barPay d g.1.1
    | some (some (false, k)) => sndPay x w k g.1.1
    | some (some (true, k)) => rcvPay x w k g.1.1
    | none => iprop(emp)
  amount_pos g _ _ _ := by
    split
    · exact amt_pos _
    · exact Nat.one_pos

/-- So may all the schedule hands over. -/
instance sch_payload_storable (g : GSem nD τ sig) (r : ℕ) (d : Fin 3) :
    BI.Storable (upEmb : UEmb _ 𝕄) ((sch (F := F) x w).payload g r d) := by
  dsimp only [sch]
  unfold sndPay rcvPay
  split <;> infer_instance

section Sched
variable (c : Dev nD) (k : Fin 15)

/-- The barrier cell's duties. -/
theorem duties_bar : (sch (F := F) x w).duties (barCell c) 0 = Finset.univ := by
  dsimp only [sch]; rw [if_pos ⟨rfl, rfl⟩, roleOf_bar]
/-- A send cell's duty. -/
theorem duties_snd : (sch (F := F) x w).duties (sndCell k c) 0 = {0} := by
  dsimp only [sch]; rw [if_pos ⟨rfl, rfl⟩, roleOf_snd]
/-- A receive cell's duty. -/
theorem duties_rcv : (sch (F := F) x w).duties (rcvCell k c) 0 = {0} := by
  dsimp only [sch]; rw [if_pos ⟨rfl, rfl⟩, roleOf_rcv]
/-- There is only one round. -/
theorem duties_later (g : GSem nD τ sig) : ∀ r, 1 ≤ r → (sch (F := F) x w).duties g r = ∅ :=
  fun r hr => by dsimp only [sch]; rw [if_neg fun h => by omega]
/-- A signal is one unit. -/
theorem amount_bar (d : Fin 3) : (sch (F := F) x w).amount (barCell c) 0 d = 1 := by
  dsimp only [sch]; rw [roleOf_bar]
/-- A send cell's duty is its copy's credit. -/
theorem amount_snd (d : Fin 3) : (sch (F := F) x w).amount (sndCell k c) 0 d = amt k := by
  dsimp only [sch]; rw [roleOf_snd]
/-- So is a receive cell's. -/
theorem amount_rcv (d : Fin 3) : (sch (F := F) x w).amount (rcvCell k c) 0 d = amt k := by
  dsimp only [sch]; rw [roleOf_rcv]
/-- The barrier's round is three units. -/
theorem expect_bar : (sch (F := F) x w).expect (barCell c) 0 = 3 := by
  unfold Schedule.expect Schedule.amountOf
  rw [duties_bar, Finset.sum_congr rfl fun d _ => amount_bar x w c d, Finset.sum_const, Finset.card_univ, Fintype.card_fin, smul_eq_mul]
/-- A send cell's round is its copy's credit. -/
theorem expect_snd : (sch (F := F) x w).expect (sndCell k c) 0 = amt k := by
  unfold Schedule.expect Schedule.amountOf; rw [duties_snd, Finset.sum_singleton, amount_snd]
/-- So is a receive cell's. -/
theorem expect_rcv : (sch (F := F) x w).expect (rcvCell k c) 0 = amt k := by
  unfold Schedule.expect Schedule.amountOf; rw [duties_rcv, Finset.sum_singleton, amount_rcv]
/-- What a signal hands over. -/
theorem payload_bar (d : Fin 3) : (sch (F := F) x w).payload (barCell c) 0 d = barPay d c := by
  dsimp only [sch]; rw [roleOf_bar]
/-- What a send cell hands over. -/
theorem payload_snd (d : Fin 3) : (sch (F := F) x w).payload (sndCell k c) 0 d = sndPay x w k c := by
  dsimp only [sch]; rw [roleOf_snd]
/-- What a receive cell hands over. -/
theorem payload_rcv (d : Fin 3) : (sch (F := F) x w).payload (rcvCell k c) 0 d = rcvPay x w k c := by
  dsimp only [sch]; rw [roleOf_rcv]
/-- All that the barrier's round hands over. -/
theorem rest_bar : bigSep ((sch (F := F) x w).duties (barCell c) 0 \ ∅) (fun d => (sch (F := F) x w).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
/-- All that a send cell's round hands over. -/
theorem rest_snd : bigSep ((sch (F := F) x w).duties (sndCell k c) 0 \ ∅) (fun d => (sch (F := F) x w).payload (sndCell k c) 0 d) = sndPay x w k c := by
  rw [Finset.sdiff_empty, duties_snd, bigSep_singleton, payload_snd]
/-- All that a receive cell's round hands over. -/
theorem rest_rcv : bigSep ((sch (F := F) x w).duties (rcvCell k c) 0 \ ∅) (fun d => (sch (F := F) x w).payload (rcvCell k c) 0 d) = rcvPay x w k c := by
  rw [Finset.sdiff_empty, duties_rcv, bigSep_singleton, payload_rcv]

end Sched

/-! ## What a device owes, and the levels -/

/-- The receive credits of the copies from number `n` on. -/
def owedFrom (n : ℕ) (c : Dev nD) : CellTallies nD τ sig Unit :=
  ∑ k ∈ Finset.univ.filter (fun k : Fin 15 => n ≤ k.val), tallyAt (rcvCell k (peer k c)) () (amt k)

/-- Starting copy `k` pays the first of the debts from `k` on. -/
theorem owedFrom_peel (k : Fin 15) (c : Dev nD) :
    owedFrom k.val c = owedFrom (k.val + 1) c + tallyAt (rcvCell k (peer k c)) () (amt k) := by
  unfold owedFrom
  rw [show Finset.univ.filter (fun k' : Fin 15 => k.val ≤ k'.val) = insert k (Finset.univ.filter fun k' : Fin 15 => k.val + 1 ≤ k'.val) from by
      revert k; decide, Finset.sum_insert (by rw [Finset.mem_filter]; omega), add_comm]

/-- After the last copy nothing is owed. -/
theorem owedFrom_done (c : Dev nD) : owedFrom 15 c = 0 := by
  unfold owedFrom; rw [show Finset.univ.filter (fun k' : Fin 15 => 15 ≤ k'.val) = ∅ from by decide, Finset.sum_empty]

/-- What a device owes at launch: all its copies' receive credits and one unit to each partner's barrier cell, summed so
    that the signals peel off in order. -/
def O₂ (c : Dev nD) : CellTallies nD τ sig Unit := owedFrom 0 c + tallyAt (barCell (e 2 c)) () 1
/-- With the unit owed in direction 1. -/
def O₁ (c : Dev nD) : CellTallies nD τ sig Unit := O₂ c + tallyAt (barCell (e 1 c)) () 1
/-- With the unit owed in direction 0: all that a device owes at launch. -/
def O₀ (c : Dev nD) : CellTallies nD τ sig Unit := O₁ c + tallyAt (barCell (e 0 c)) () 1

/-- Every cell of a device's main core has one level. -/
def L (g : GSem nD τ sig) : Finset Unit := if g.1.2 = .tc then {()} else ∅
/-- It is 1 at the barrier, 2 and the copy's number at a receive cell, and 0 elsewhere. -/
def lv (g : GSem nD τ sig) (_ : Unit) : ℕ := match roleOf g.2 with | some none => 1 | some (some (true, k)) => 2 + k.val | _ => 0

/-- Other threads' cells have none. -/
theorem L_of_ne (g : GSem nD τ sig) (h : g.1.2 ≠ .tc) : L g = ∅ := if_neg h
/-- A main core's cell has one. -/
theorem L_tc (c : Dev nD) (sm : SemLoc sig) : L ((c : Thread nD τ), sm) = {()} := if_pos rfl
/-- The barrier cell's level. -/
theorem lv_bar (c : Dev nD) : lv (barCell c) () = 1 := by dsimp only [lv]; rw [roleOf_bar]
/-- A send cell's level. -/
theorem lv_snd (k : Fin 15) (c : Dev nD) : lv (sndCell k c) () = 0 := by dsimp only [lv]; rw [roleOf_snd]
/-- A receive cell's level. -/
theorem lv_rcv (k : Fin 15) (c : Dev nD) : lv (rcvCell k c) () = 2 + k.val := by dsimp only [lv]; rw [roleOf_rcv]

/-- Where copies from `n` on are owed: at their receive cells. -/
theorem owedFrom_pos {n : ℕ} {c : Dev nD} {g : GSem nD τ sig} {u : Unit} (h : 0 < owedFrom n c g u) :
    ∃ k : Fin 15, n ≤ k.val ∧ g = rcvCell k (peer k c) := by
  unfold owedFrom at h
  rw [Finset.sum_apply, Finsupp.finset_sum_apply] at h
  obtain ⟨k, hk, hne⟩ := Finset.exists_ne_zero_of_sum_ne_zero (Nat.pos_iff_ne_zero.mp h)
  refine ⟨k, (Finset.mem_filter.mp hk).2, ?_⟩
  rw [tallyAt_apply] at hne
  by_contra hn
  exact hne (if_neg fun h' => hn h'.1)

/-- Where anything is owed at launch: at receive cells and barrier cells. -/
theorem O₀_pos {c : Dev nD} {g : GSem nD τ sig} {u : Unit} (h : 0 < O₀ c g u) :
    (∃ k : Fin 15, g = rcvCell k (peer k c)) ∨ ∃ d, g = barCell (e d c) := by
  unfold O₀ O₁ O₂ at h
  rw [Pi.add_apply, Finsupp.add_apply, Pi.add_apply, Finsupp.add_apply, Pi.add_apply, Finsupp.add_apply,
    tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨k, -, hk⟩ := owedFrom_pos (by simpa using h)
  exact hn.1 ⟨k, hk⟩

/-- A wait on a cell below the receive cell of copy `n` is allowed while only copies from `n` on are owed. -/
theorem mayWait_from (c : Dev nD) (sm : SemLoc sig) (n : ℕ) (h : lv ((c : Thread nD τ), sm) () ≤ n + 1) :
    (levAts L lv : sProp 𝕄) ⊢ MayWait (c : Thread nD τ) sm () (owedFrom n c) :=
  MayOwe.of_cut (L := L) (lev := lv) (n + 1) (fun p hp => by rw [Finset.mem_singleton.mp hp, L_tc]; exact Finset.mem_singleton_self _)
    (fun g u hg => by obtain ⟨k, -, rfl⟩ := owedFrom_pos hg; exact Finset.mem_singleton_self _)
    (fun p hp => by rw [Finset.mem_singleton.mp hp]; exact h)
    (fun g u hg => by obtain ⟨k, hk, rfl⟩ := owedFrom_pos hg; rw [lv_rcv]; omega)

/-- A wait on a cell at level 0 is allowed at launch and after everything is paid. -/
theorem mayWait_stage (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp, h])
      (fun g u hg => by
        rcases O₀_pos hg with ⟨k, rfl⟩ | ⟨d, rfl⟩
        · rw [lv_rcv]; omega
        · rw [lv_bar]; omega)
  · rw [MayWait_zero]; iintro -; iempintro

end Cert.KProof

end
-- ==== Proof.Exchange.lean ====
/-
# The rules of one exchange: starting copy `k`, waiting for it to be read out, waiting for its counterpart to land

What a device carries for copy `k` moves through four forms: `idle` before it is started, `flying` after, `half` once
the source blocks are back, `fin` once the partner's copy has landed too.  Each rule is stated once, at any copy `k`
and any accumulator and landing buffer it runs between.
-/
module

public import proofs.«01_k».proof.Proof.Sched

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)

/-- Every cell's invariant, under the names `K`, and that every cell has reached its round. -/
def records (K : Dev nD × Role → ℕ) : sProp 𝕄 :=
  iprop((bigSep Finset.univ fun ci : Dev nD × Role => cellInv ER (sch (F := F) x w) (K ci) (kcell ci))
    ∗ bigSep Finset.univ fun ci : Dev nD × Role => reached ER (kcell ci) 0)

/-- The shared facts may be used any number of times. -/
instance records_persistent (K : Dev nD × Role → ℕ) : BI.Persistent (records (F := F) x w K) := by unfold records; infer_instance

/-- The facts every step uses: the records and the levels. -/
def known (K : Dev nD × Role → ℕ) : sProp 𝕄 := iprop(records x w K ∗ levAts L lv)

/-- So may they together with the levels. -/
instance known_persistent (K : Dev nD × Role → ℕ) : BI.Persistent (known (F := F) x w K) := by unfold known; infer_instance

/-- The invariant of one cell, out of all. -/
theorem inv_at (K : Dev nD × Role → ℕ) (ci : Dev nD × Role) :
    (bigSep Finset.univ fun ci : Dev nD × Role => (cellInv ER (sch (F := F) x w) (K ci) (kcell ci) : sProp 𝕄)) ⊢ cellInv ER (sch x w) (K ci) (kcell ci) :=
  bigSep_elim (Finset.mem_univ ci)
/-- The mark of one cell, out of all. -/
theorem reached_at (ci : Dev nD × Role) :
    (bigSep Finset.univ fun ci : Dev nD × Role => (reached ER (kcell ci) 0 : sProp 𝕄)) ⊢ reached ER (kcell ci) 0 :=
  bigSep_elim (Finset.mem_univ ci)

/-- A cell's invariant is among the known facts. -/
theorem known_inv (K : Dev nD × Role → ℕ) (ci : Dev nD × Role) {g : GSem nD τ sig} (hg : g = kcell ci) :
    known (F := F) x w K ⊢ cellInv ER (sch x w) (K ci) g := by
  subst hg
  unfold known records
  iintro ⟨⟨H, -⟩, -⟩
  iapply (inv_at x w K ci); iexact H
/-- So is its mark. -/
theorem known_reached (K : Dev nD × Role → ℕ) (ci : Dev nD × Role) {g : GSem nD τ sig} (hg : g = kcell ci) :
    known (F := F) x w K ⊢ reached ER g 0 := by
  subst hg
  unfold known records
  iintro ⟨⟨-, H⟩, -⟩
  iapply (reached_at (F := F) ci); iexact H
/-- So are the levels. -/
theorem known_levels (K : Dev nD × Role → ℕ) : known (F := F) x w K ⊢ (levAts L lv : sProp 𝕄) := by
  unfold known; iintro ⟨-, H⟩; iexact H

/-- What device `c` holds for copy `k` before starting it: the tokens of the two duties it pays, its positions on its own
    two cells, the credit of its receive cell. -/
def idle (k : Fin 15) (c : Dev nD) : sProp 𝕄 :=
  iprop((dutyTok ER (sndCell k c) 0 (0 : Fin 3) ∗ dutyTok ER (rcvCell k (peer k c)) 0 (0 : Fin 3)) ∗ atPos ER (sndCell k c) 0 ∅ 0
    ∗ atPos ER (rcvCell k c) 0 ∅ 0 ∗ cred (tallyAt (rcvCell k c) () (amt k)))
/-- After starting it. -/
def flying (k : Fin 15) (c : Dev nD) : sProp 𝕄 :=
  iprop((atPos ER (sndCell k c) 0 ∅ 0 ∗ cred (tallyAt (sndCell k c) () (amt k)))
    ∗ atPos ER (rcvCell k c) 0 ∅ 0 ∗ cred (tallyAt (rcvCell k c) () (amt k)))
/-- After its source blocks are back. -/
def half (k : Fin 15) (c : Dev nD) : sProp 𝕄 :=
  iprop(semVal (sndCell k c) 0 ∗ atPos ER (rcvCell k c) 0 ∅ 0 ∗ cred (tallyAt (rcvCell k c) () (amt k)))
/-- After the partner's copy has landed. -/
def fin (k : Fin 15) (c : Dev nD) : sProp 𝕄 := iprop(semVal (sndCell k c) 0 ∗ semVal (rcvCell k c) 0)

/-- The device owes the receive credits of the copies from number `n` on. -/
def owing (n : ℕ) (c : Dev nD) : sProp 𝕄 := iprop(∃ Ws : Waits sig Unit, owes (c : Thread nD τ) (owedFrom n c) Ws)

/-- Device `c` holds blocks `X` of group `g`'s accumulator with its running sums after `s` exchanges. -/
def acc (g : Fin 3) (s : ℕ) (c : Dev nD) (X : Finset ℕ) : sProp 𝕄 := accHeld g c X (SB (F := F) x w g s c)
/-- Device `c` holds blocks `X` of group `g`'s accumulator, or landing buffer, with whatever they hold. -/
def raw (g : Fin 3) (c : Dev nD) (X : Finset ℕ) : sProp 𝕄 := iprop(∃ V : ℕ → ℕ → ℕ → F .bf16, accHeld g c X V)
/-- Device `c` holds slots `X` of group `g`'s landing buffer, with whatever they hold. -/
def rraw (g : Fin 3) (c : Dev nD) (X : Finset ℕ) : sProp 𝕄 := iprop(∃ V : ℕ → ℕ → ℕ → F .bf16, rcvHeld g c X V)
/-- Device `c` holds copy `k`'s landing slots with what the partner sent. -/
def lnd (k : Fin 15) (c : Dev nD) : sProp 𝕄 := rcvHeld (grp k) c (dslots k) (RV (F := F) x w k c)

/-! ## The rules -/

section Rules

variable (K : Dev nD × Role → ℕ) (c : Dev nD) (k : Fin 15)
variable {D₁ D₂ R W : ℕ} {M : Memref sig .tc .vmem (Sh3 D₁ R W) .bf16} {N : Memref sig .tc .vmem (Sh3 D₂ R W) .bf16}

theorem slice_set (M : Memref sig .tc .vmem (Sh3 D₁ R W) .bf16) {n o : ℕ} {off : Fin 3 → ℕ} (ho : off = ![o, 0, 0])
    (inb : ∀ a, off a + (Sh3 n R W).size a ≤ (Sh3 D₁ R W).size a) (hs : ∀ a, (Rect.unit (s := Sh3 D₁ R W) off (Sh3 n R W).size inb).stride a = 1) :
    (M.slice (Rect.unit (s := Sh3 D₁ R W) off (Sh3 n R W).size inb) hs).view.set = M.view.setOn (slab D₁ R W (Finset.Ico o (o + n))) :=
  (View.set_slice M.view (Rect.unit (s := Sh3 D₁ R W) off (Sh3 n R W).size inb)).trans (by rw [set_blocks ho]; rfl)

/-- What a copy of whole blocks leaves at its destination: the source's blocks, in order. -/
theorem copy_read (M : Memref sig .tc .vmem (Sh3 D₁ R W) .bf16) (N : Memref sig .tc .vmem (Sh3 D₂ R W) .bf16)
    {n o₁ o₂ : ℕ} {off₁ off₂ : Fin 3 → ℕ} (h₁ : off₁ = ![o₁, 0, 0]) (h₂ : off₂ = ![o₂, 0, 0])
    {inb₁ : ∀ a, off₁ a + (Sh3 n R W).size a ≤ (Sh3 D₁ R W).size a} {inb₂ : ∀ a, off₂ a + (Sh3 n R W).size a ≤ (Sh3 D₂ R W).size a}
    (hs₁ : ∀ a, (Rect.unit (s := Sh3 D₁ R W) off₁ (Sh3 n R W).size inb₁).stride a = 1)
    (hs₂ : ∀ a, (Rect.unit (s := Sh3 D₂ R W) off₂ (Sh3 n R W).size inb₂).stride a = 1)
    (fs : M.view.ty.Contents (Elt F)) (fd : N.view.ty.Contents (Elt F)) {V : ℕ → ℕ → ℕ → F .bf16}
    (hfs : ∀ i : (Sh3 D₁ R W).Idx, (i 0).val ∈ Finset.Ico o₁ (o₁ + n) → M.view.read (Elt F) fs i = V (i 0).val (i 1).val (i 2).val)
    (i : (Sh3 D₂ R W).Idx) (hi : (i 0).val ∈ Finset.Ico o₂ (o₂ + n)) :
    N.view.read (Elt F) ((N.slice (Rect.unit (s := Sh3 D₂ R W) off₂ (Sh3 n R W).size inb₂) hs₂).view.write (Elt F) fd
      ((M.slice (Rect.unit (s := Sh3 D₁ R W) off₁ (Sh3 n R W).size inb₁) hs₁).view.read (Elt F) fs) Finset.univ) i
      = V (o₁ + ((i 0).val - o₂)) (i 1).val (i 2).val := by
  obtain ⟨j, rfl⟩ := LoadRect.exists_idx_of_mem (r := (Rect.unit (s := Sh3 D₂ R W) off₂ (Sh3 n R W).size inb₂).toLoadRect) (i := i)
    (by rw [show (Rect.unit (s := Sh3 D₂ R W) off₂ (Sh3 n R W).size inb₂).toLoadRect.set = _ from set_blocks h₂ inb₂]; exact mem_slab.mpr hi)
  obtain ⟨a0, a1, a2⟩ := emb_blocks h₂ inb₂ j
  obtain ⟨b0, b1, b2⟩ := emb_blocks h₁ inb₁ j
  refine (View.read_slice_write_emb (v := N.view) (Val := Elt F) (Rect.unit (s := Sh3 D₂ R W) off₂ (Sh3 n R W).size inb₂) fd
    ((M.slice (Rect.unit (s := Sh3 D₁ R W) off₁ (Sh3 n R W).size inb₁) hs₁).view.read (Elt F) fs) (M := Finset.univ) (x := j) (Finset.mem_univ _)).trans ?_
  refine (hfs ((Rect.unit (s := Sh3 D₁ R W) off₁ (Sh3 n R W).size inb₁).emb j) ?_).trans ?_
  · rw [b0, Finset.mem_Ico]; exact ⟨Nat.le_add_right _ _, Nat.add_lt_add_left (j 0).isLt _⟩
  · rw [b0, b1, b2]
    refine congr (congr (congrArg V ?_) a1.symm) a2.symm
    rw [show ((Rect.unit (s := Sh3 D₂ R W) off₂ (Sh3 n R W).size inb₂).toLoadRect.idx j 0).val = o₂ + (j 0).val from a0, Nat.add_sub_cancel_left]

set_option maxHeartbeats 1000000 in
/-- Starting copy `k`: the source blocks and the partner's landing slots go with it. -/
theorem wp_copy {g : Fin 3} {t : ℕ} (hg : grp k = g) (ht : (stg k).val = t)
    (hM : ∀ X V, accHeld (F := F) g c X V = held M c X V) (hN : ∀ X V, rcvHeld (F := F) g (peer k c) X V = held N (peer k c) X V)
    {p : Dev nD} (hp : p = peer k c) {off₁ off₂ : Fin 3 → ℕ} (h₁ : off₁ = ![so k c, 0, 0]) (h₂ : off₂ = ![dso k, 0, 0])
    {n : ℕ} (hn : n = cnt k)
    {inb₁ : ∀ a, off₁ a + (Sh3 n R W).size a ≤ (Sh3 D₁ R W).size a} {inb₂ : ∀ a, off₂ a + (Sh3 n R W).size a ≤ (Sh3 D₂ R W).size a}
    {hs₁ : ∀ a, (Rect.unit (s := Sh3 D₁ R W) off₁ (Sh3 n R W).size inb₁).stride a = 1}
    {hs₂ : ∀ a, (Rect.unit (s := Sh3 D₂ R W) off₂ (Sh3 n R W).size inb₂).stride a = 1}
    {sS sR : DmaSem sig} (hS : sS = sndS k) (hR : sR = rcvS k)
    (hamt : (N.slice (Rect.unit (s := Sh3 D₂ R W) off₂ (Sh3 n R W).size inb₂) hs₂).view.amount (.dma sR) = amt k)
    {hsc : (N.slice (Rect.unit (s := Sh3 D₂ R W) off₂ (Sh3 n R W).size inb₂) hs₂ : Memref sig (Dev.tc p : Thread nD τ).2.kind .vmem _ .bf16).view.ref.isScScratch = false}
    {hsrc : (M.slice (Rect.unit (s := Sh3 D₁ R W) off₁ (Sh3 n R W).size inb₁) hs₁).view.WordExact}
    {hdst : (N.slice (Rect.unit (s := Sh3 D₂ R W) off₂ (Sh3 n R W).size inb₂) hs₂).view.WordExact}
    {hsem : DmaTarget.Typed .vmem (.dma sR) (.remote (Dev.tc p : Thread nD τ) (N.slice (Rect.unit (s := Sh3 D₂ R W) off₂ (Sh3 n R W).size inb₂) hs₂) (.dma sS) hsc)}
    {α : Type} {Q : α → sProp 𝕄} {kt : PUnit → Prog (TpuEff nD τ sig (Elt F) Λ₀ .tc) α} :
    iprop(known x w K ∗ idle k c ∗ acc x w g t c (sslots k c) ∗ land k (peer k c) ∗ owing k.val c)
      ⊢ iprop(((flying k c ∗ owing (k.val + 1) c) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (M.slice (Rect.unit (s := Sh3 D₁ R W) off₁ (Sh3 n R W).size inb₁) hs₁)
                (.remote (Dev.tc p : Thread nD τ) (N.slice (Rect.unit (s := Sh3 D₂ R W) off₂ (Sh3 n R W).size inb₂) hs₂) (.dma sS) hsc)
                (.dma sR) hsrc hdst hsem) kt) Q) := by
  subst hp hS hR hn hg ht
  unfold idle land owing flying acc
  rw [hM]; simp only [hN]; unfold held
  iintro ⟨#HK, ⟨⟨Ht1, Ht2⟩, HaS, HaR, HcR⟩, ⟨%fs, %hfs, Hsrc⟩, ⟨%V, %fd, %hfd, Hdst⟩, ⟨%Ws, HO⟩⟩ Hk
  have hset₁ : (M.slice (Rect.unit (s := Sh3 D₁ R W) off₁ (Sh3 (cnt k) R W).size inb₁) hs₁).view.set = M.view.setOn (slab D₁ R W (sslots k c)) := by
    exact slice_set M h₁ inb₁ hs₁
  have hset₂ : (N.slice (Rect.unit (s := Sh3 D₂ R W) off₂ (Sh3 (cnt k) R W).size inb₂) hs₂).view.set = N.view.setOn (slab D₂ R W (dslots k)) := by
    exact slice_set N h₂ inb₂ hs₂
  iapply (Rounds.wp_send_pointsTo 𝒱₀ ER (sch x w) (c : Thread nD τ) none (κ₁ := K (c, some (false, k))) (κ₂ := K (peer k c, some (true, k))) (c' := (Dev.tc (peer k c) : Thread nD τ))
    (s := Sh3 (cnt k) R W) (src := M.slice (Rect.unit (s := Sh3 D₁ R W) off₁ (Sh3 (cnt k) R W).size inb₁) hs₁)
    (dst := N.slice (Rect.unit (s := Sh3 D₂ R W) off₂ (Sh3 (cnt k) R W).size inb₂) hs₂)
    (r₁ := 0) (r₂ := 0) (d₁ := 0) (d₂ := 0) (fs := fs) (fd := fd) (q := fullShare)
    (by rw [duties_snd]; exact Finset.mem_singleton_self _) (by rw [duties_rcv]; exact Finset.mem_singleton_self _)
    () () (amt k) hamt (amount_snd x w c k 0) (amount_rcv x w (peer k c) k 0) (owedFrom (k.val + 1) c) (owedFrom_peel k c) (W := Ws)
    (by
      rw [payload_snd, hset₁]; unfold sndPay; rw [hM]; unfold held
      iintro H; iexists fs; isplitr
      · ipureintro; exact hfs
      iexact H)
    (by
      rw [payload_rcv, hset₂]; unfold rcvPay; rw [hN]; unfold held
      iintro H; iexists _; isplitr
      · ipureintro
        intro i hi
        refine (copy_read M N h₁ h₂ hs₁ hs₂ fs fd (V := SB x w (grp k) (stg k).val c) hfs i hi).trans ?_
        unfold RV; rw [peer_peer]
      iexact H)) $$ [Hsrc Hdst HO Ht1 Ht2]
  · isplitr; · iapply (known_inv x w K (c, some (false, k)) rfl); iexact HK
    isplitr; · iapply (known_inv x w K (peer k c, some (true, k)) rfl); iexact HK
    isplitl [Hsrc]; · rw [hset₁]; iexact Hsrc
    isplitl [Hdst]; · rw [hset₂]; iexact Hdst
    isplitl [HO]; · iexact HO
    isplitl [Ht1]; · iexact Ht1
    isplitr; · iapply (known_reached x w K (c, some (false, k)) rfl); iexact HK
    isplitl [Ht2]; · iexact Ht2
    iapply (known_reached x w K (peer k c, some (true, k)) rfl); iexact HK
  iintro ⟨HcS, HO⟩
  iapply Hk
  isplitr [HO]
  · isplitl [HaS HcS]
    · isplitl [HaS] <;> iassumption
    isplitl [HaR] <;> iassumption
  iexists Ws; iexact HO

/-- Waiting until copy `k`'s source has been read: the source blocks are back, unchanged. -/
theorem wp_wait_send {g : Fin 3} {t : ℕ} (hg : grp k = g) (ht : (stg k).val = t) {n : ℕ} (hkn : k.val < n) {sS : DmaSem sig} (hS : sS = sndS k)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt k)
    {α : Type} {Q : α → sProp 𝕄} {kt : PUnit → Prog (TpuEff nD τ sig (Elt F) Λ₀ .tc) α} :
    iprop(known x w K ∗ flying k c ∗ owing n c)
      ⊢ iprop(((half k c ∗ acc x w g t c (sslots k c) ∗ owing n c)
              -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sS src dst hsrc hdst) kt) Q) := by
  subst hS hg ht
  unfold flying half owing acc
  iintro ⟨#HK, ⟨⟨HaS, HcS⟩, HaR, HcR⟩, ⟨%Ws, HO⟩⟩ Hk
  iapply (Rounds.wp_wait_rest_token 𝒱₀ ER (sch x w) (c : Thread nD τ) none (κ := K (c, some (false, k)))
      (wpE_waitDma2_eq 𝒱₀ (c : Thread nD τ) none Set.univ) (Set.mem_univ _) () (O := owedFrom n c) (W := Ws) (R := 0) (m := 0) (T := ∅)
      (by rw [Nat.zero_add, hamt]; exact (expect_snd x w c k).symm)) $$ [HcS HO HaS]
  · isplitr; · iapply (known_inv x w K (c, some (false, k)) rfl); iexact HK
    isplitl [HcS]; · rw [hamt]; iexact HcS
    isplitl [HO]; · iexact HO
    isplitr
    · iapply (mayWait_from (F := F) c (.dma (sndS k)) n ((lv_snd k c).le.trans (Nat.zero_le _)))
      iapply (known_levels x w K); iexact HK
    iexact HaS
  iintro ⟨HO, HaS, -, Hpay⟩
  ihave Hp := (Entails.of_eq (rest_snd x w c k)) $$ Hpay
  imod (Rounds.cell_close ER (sch x w) (Set.mem_univ (K (c, some (false, k)))) (fun h => h) (R := 0 + 1) (duties_later x w (sndCell k c))) $$ [HaS] with HzS
  · isplitr; · iapply (known_inv x w K (c, some (false, k)) rfl); iexact HK
    iexact HaS
  iapply Hk
  isplitl [HzS HaR HcR]
  · isplitl [HzS]; · iexact HzS
    isplitl [HaR] <;> iassumption
  isplitl [Hp]; · unfold sndPay; iexact Hp
  iexists _; iexact HO

/-- Waiting until the partner's copy `k` has landed: the landing slots hold the partner's running sums. -/
theorem wp_wait_recv {n : ℕ} (hkn : k.val < n) {sR : DmaSem sig} (hR : sR = rcvS k)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt k)
    {α : Type} {Q : α → sProp 𝕄} {kt : PUnit → Prog (TpuEff nD τ sig (Elt F) Λ₀ .tc) α} :
    iprop(known x w K ∗ half k c ∗ owing n c)
      ⊢ iprop(((fin k c ∗ lnd x w k c ∗ owing n c)
              -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sR src dst hsrc hdst) kt) Q) := by
  subst hR
  unfold half fin owing lnd
  iintro ⟨#HK, ⟨HzS, HaR, HcR⟩, ⟨%Ws, HO⟩⟩ Hk
  iapply (Rounds.wp_wait_rest_token 𝒱₀ ER (sch x w) (c : Thread nD τ) none (κ := K (c, some (true, k)))
      (wpE_waitDma2_eq 𝒱₀ (c : Thread nD τ) none Set.univ) (Set.mem_univ _) () (O := owedFrom n c) (W := Ws) (R := 0) (m := 0) (T := ∅)
      (by rw [Nat.zero_add, hamt]; exact (expect_rcv x w c k).symm)) $$ [HcR HO HaR]
  · isplitr; · iapply (known_inv x w K (c, some (true, k)) rfl); iexact HK
    isplitl [HcR]; · rw [hamt]; iexact HcR
    isplitl [HO]; · iexact HO
    isplitr
    · iapply (mayWait_from (F := F) c (.dma (rcvS k)) n ((lv_rcv k c).le.trans (by omega)))
      iapply (known_levels x w K); iexact HK
    iexact HaR
  iintro ⟨HO, HaR, -, Hpay⟩
  ihave Hp := (Entails.of_eq (rest_rcv x w c k)) $$ Hpay
  imod (Rounds.cell_close ER (sch x w) (Set.mem_univ (K (c, some (true, k)))) (fun h => h) (R := 0 + 1) (duties_later x w (rcvCell k c))) $$ [HaR] with HzR
  · isplitr; · iapply (known_inv x w K (c, some (true, k)) rfl); iexact HK
    iexact HaR
  iapply Hk
  isplitl [HzS HzR]
  · isplitl [HzS] <;> iassumption
  isplitl [Hp]; · unfold rcvPay; iexact Hp
  iexists _; iexact HO

end Rules

end Cert.KProof

end
-- ==== Proof.Step.lean ====
/-
# The rules of the kernel's loads, stores and splits, over what a device holds of its accumulators and landing buffers
-/
module

public import proofs.«01_k».proof.Proof.Exchange

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)

/-! ## Splitting and joining -/

section Split
variable {g : Fin 3} {t : ℕ} {c : Dev nD} {X Y Z : Finset ℕ}

/-- Accumulator blocks split along a division of their numbers. -/
theorem acc_split (hZ : Z = X ∪ Y) (h : Disjoint X Y) : acc (F := F) x w g t c Z ⊢ iprop(acc x w g t c X ∗ acc x w g t c Y) := by
  unfold acc
  match g with
  | 0 => exact held_split hZ h
  | 1 => exact held_split hZ h
  | 2 => exact held_split hZ h
/-- They join again. -/
theorem acc_join (hZ : Z = X ∪ Y) (h : Disjoint X Y) : iprop(acc (F := F) x w g t c X ∗ acc x w g t c Y) ⊢ acc x w g t c Z := by
  unfold acc
  match g with
  | 0 => exact held_join hZ h
  | 1 => exact held_join hZ h
  | 2 => exact held_join hZ h
/-- Known contents may be forgotten. -/
theorem acc_raw : acc (F := F) x w g t c X ⊢ raw (F := F) g c X := by
  unfold acc raw; iintro H; iexists _; iexact H
/-- The same for blocks of unknown contents. -/
theorem raw_split (hZ : Z = X ∪ Y) (h : Disjoint X Y) : raw (F := F) g c Z ⊢ iprop(raw (F := F) g c X ∗ raw (F := F) g c Y) := by
  unfold raw
  match g with
  | 0 => exact owned_split hZ h
  | 1 => exact owned_split hZ h
  | 2 => exact owned_split hZ h
/-- They join again. -/
theorem raw_join (hZ : Z = X ∪ Y) (h : Disjoint X Y) : iprop(raw (F := F) g c X ∗ raw (F := F) g c Y) ⊢ raw (F := F) g c Z := by
  unfold raw
  match g with
  | 0 => exact owned_join hZ h
  | 1 => exact owned_join hZ h
  | 2 => exact owned_join hZ h
/-- The same for landing slots. -/
theorem rraw_split (hZ : Z = X ∪ Y) (h : Disjoint X Y) : rraw (F := F) g c Z ⊢ iprop(rraw (F := F) g c X ∗ rraw (F := F) g c Y) := by
  unfold rraw
  match g with
  | 0 => exact owned_split hZ h
  | 1 => exact owned_split hZ h
  | 2 => exact owned_split hZ h
/-- They join again. -/
theorem rraw_join (hZ : Z = X ∪ Y) (h : Disjoint X Y) : iprop(rraw (F := F) g c X ∗ rraw (F := F) g c Y) ⊢ rraw (F := F) g c Z := by
  unfold rraw
  match g with
  | 0 => exact owned_join hZ h
  | 1 => exact owned_join hZ h
  | 2 => exact owned_join hZ h
/-- What landed may be forgotten. -/
theorem lnd_rraw (k : Fin 15) : lnd (F := F) x w k c ⊢ rraw (F := F) (grp k) c (dslots k) := by
  unfold lnd rraw; iintro H; iexists _; iexact H

section Four
variable {A B C D : Finset ℕ}
/-- Accumulator blocks in four parts. -/
theorem acc4_split (hZ : Z = four A B C D) (h : apart A B C D) :
    acc (F := F) x w g t c Z ⊢ iprop(acc x w g t c A ∗ acc x w g t c B ∗ acc x w g t c C ∗ acc x w g t c D) :=
  (acc_split x w hZ h.1).trans (sep_mono_r ((acc_split x w rfl h.2.1).trans (sep_mono_r (acc_split x w rfl h.2.2))))
/-- The four parts joined. -/
theorem acc4_join (hZ : Z = four A B C D) (h : apart A B C D) :
    iprop(acc (F := F) x w g t c A ∗ acc x w g t c B ∗ acc x w g t c C ∗ acc x w g t c D) ⊢ acc x w g t c Z :=
  (sep_mono_r ((sep_mono_r (acc_join x w rfl h.2.2)).trans (acc_join x w rfl h.2.1))).trans (acc_join x w hZ h.1)
/-- Blocks of unknown contents in four parts. -/
theorem raw4_split (hZ : Z = four A B C D) (h : apart A B C D) :
    raw (F := F) g c Z ⊢ iprop(raw (F := F) g c A ∗ raw (F := F) g c B ∗ raw (F := F) g c C ∗ raw (F := F) g c D) :=
  (raw_split hZ h.1).trans (sep_mono_r ((raw_split rfl h.2.1).trans (sep_mono_r (raw_split rfl h.2.2))))
/-- The four parts joined. -/
theorem raw4_join (hZ : Z = four A B C D) (h : apart A B C D) :
    iprop(raw (F := F) g c A ∗ raw (F := F) g c B ∗ raw (F := F) g c C ∗ raw (F := F) g c D) ⊢ raw (F := F) g c Z :=
  (sep_mono_r ((sep_mono_r (raw_join rfl h.2.2)).trans (raw_join rfl h.2.1))).trans (raw_join hZ h.1)
/-- Landing slots in four parts. -/
theorem rraw4_split (hZ : Z = four A B C D) (h : apart A B C D) :
    rraw (F := F) g c Z ⊢ iprop(rraw (F := F) g c A ∗ rraw (F := F) g c B ∗ rraw (F := F) g c C ∗ rraw (F := F) g c D) :=
  (rraw_split hZ h.1).trans (sep_mono_r ((rraw_split rfl h.2.1).trans (sep_mono_r (rraw_split rfl h.2.2))))
/-- The four parts joined. -/
theorem rraw4_join (hZ : Z = four A B C D) (h : apart A B C D) :
    iprop(rraw (F := F) g c A ∗ rraw (F := F) g c B ∗ rraw (F := F) g c C ∗ rraw (F := F) g c D) ⊢ rraw (F := F) g c Z :=
  (sep_mono_r ((sep_mono_r (rraw_join rfl h.2.2)).trans (rraw_join rfl h.2.1))).trans (rraw_join hZ h.1)
end Four

end Split

/-! ## Loads and stores of the accumulators and landing buffers -/

section Blocks
variable (c : Dev nD) {D R W : ℕ} {M : Memref sig .tc .vmem (Sh3 D R W) .bf16} {n o : ℕ} {off : Fin 3 → ℕ}
variable {inb : ∀ a, off a + (Sh3 n R W).size a ≤ (Sh3 D R W).size a}

/-- A load of accumulator blocks whose contents do not matter. -/
theorem wp_load_raw {g : Fin 3} (hM : ∀ X V, accHeld (F := F) g c X V = held M c X V) (ho : off = ![o, 0, 0])
    (X : Finset ℕ) (hX : X = Finset.Ico o (o + n))
    {hl : M.view.LoadsAt (Rect.unit (s := Sh3 D R W) off (Sh3 n R W).size inb).toLoadRect}
    {α : Type} {Q : α → sProp 𝕄} {kt : ((Sh3 n R W).Idx → Elt F .bf16) → Prog (TpuEff nD τ sig (Elt F) Λ₀ .tc) α} :
    raw (F := F) g c X
      ⊢ iprop((∀ v, raw (F := F) g c X -∗ wp frame (wpE (defs₀ (F := F)) 𝒱₀ (c : Thread nD τ) none) Set.univ (kt v) Q)
          -∗ wp frame (wpE (defs₀ (F := F)) 𝒱₀ (c : Thread nD τ) none) Set.univ
            (.op (.load M (Rect.unit (s := Sh3 D R W) off (Sh3 n R W).size inb).toLoadRect hl) kt) Q) := by
  unfold raw; simp only [hM]
  iintro ⟨%V, H⟩ Hk
  iapply (wp_load_held ho hX.ge) $$ H
  iintro H
  iapply Hk $$ %_
  iexists V; iexact H

/-- The running sums of blocks from `o` on, and what landed from copy `k`, as vectors. -/
def sbv (g : Fin 3) (t o : ℕ) {n R W : ℕ} : (Sh3 n R W).Idx → F .bf16 := fun j => SB x w g t c (o + (j 0).val) (j 1).val (j 2).val
/-- What landed from copy `k`, as a vector. -/
def rvv (k : Fin 15) {n R W : ℕ} : (Sh3 n R W).Idx → F .bf16 := fun j => RV x w k c (dso k + (j 0).val) (j 1).val (j 2).val

/-- A load of accumulator blocks reads the running sums. -/
theorem wp_load_acc {g : Fin 3} {t : ℕ} (hM : ∀ X V, accHeld (F := F) g c X V = held M c X V) (ho : off = ![o, 0, 0])
    (X : Finset ℕ) (hX : X = Finset.Ico o (o + n))
    {hl : M.view.LoadsAt (Rect.unit (s := Sh3 D R W) off (Sh3 n R W).size inb).toLoadRect}
    {α : Type} {Q : α → sProp 𝕄} {kt : ((Sh3 n R W).Idx → Elt F .bf16) → Prog (TpuEff nD τ sig (Elt F) Λ₀ .tc) α} :
    acc (F := F) x w g t c X
      ⊢ iprop((acc x w g t c X -∗ wp frame (wpE (defs₀ (F := F)) 𝒱₀ (c : Thread nD τ) none) Set.univ
              (kt (sbv x w c g t o)) Q)
          -∗ wp frame (wpE (defs₀ (F := F)) 𝒱₀ (c : Thread nD τ) none) Set.univ
            (.op (.load M (Rect.unit (s := Sh3 D R W) off (Sh3 n R W).size inb).toLoadRect hl) kt) Q) := by
  unfold acc; rw [hM]; exact wp_load_held ho hX.ge

/-- A load of landed blocks reads what the partner sent. -/
theorem wp_load_lnd {k : Fin 15} (hM : ∀ X V, rcvHeld (F := F) (grp k) c X V = held M c X V) (ho : off = ![dso k, 0, 0]) (hn : n = cnt k)
    {hl : M.view.LoadsAt (Rect.unit (s := Sh3 D R W) off (Sh3 n R W).size inb).toLoadRect}
    {α : Type} {Q : α → sProp 𝕄} {kt : ((Sh3 n R W).Idx → Elt F .bf16) → Prog (TpuEff nD τ sig (Elt F) Λ₀ .tc) α} :
    lnd (F := F) x w k c
      ⊢ iprop((lnd x w k c -∗ wp frame (wpE (defs₀ (F := F)) 𝒱₀ (c : Thread nD τ) none) Set.univ
              (kt (rvv x w c k)) Q)
          -∗ wp frame (wpE (defs₀ (F := F)) 𝒱₀ (c : Thread nD τ) none) Set.univ
            (.op (.load M (Rect.unit (s := Sh3 D R W) off (Sh3 n R W).size inb).toLoadRect hl) kt) Q) := by
  unfold lnd; rw [hM]; exact wp_load_held ho (by rw [hn])

/-- A store of the device's own contributions over blocks holding whatever they hold. -/
theorem wp_store_raw {g : Fin 3} (hM : ∀ X V, accHeld (F := F) g c X V = held M c X V) (ho : off = ![o, 0, 0])
    (X : Finset ℕ) (hX : X = Finset.Ico o (o + n))
    {v : (Sh3 n R W).Idx → Elt F .bf16} (hv : ∀ j, v j = SB x w g 0 c (o + (j 0).val) (j 1).val (j 2).val)
    {hx : (M.access (Rect.unit (s := Sh3 D R W) off (Sh3 n R W).size inb)).Stores Finset.univ}
    {hm : (Finset.univ : Finset (Sh3 n R W).Idx) = Finset.univ ∨ ∀ a, (Rect.unit (s := Sh3 D R W) off (Sh3 n R W).size inb).stride a = 1}
    {α : Type} {Q : α → sProp 𝕄} {kt : PUnit → Prog (TpuEff nD τ sig (Elt F) Λ₀ .tc) α} :
    raw (F := F) g c X
      ⊢ iprop((acc x w g 0 c X -∗ wp frame (wpE (defs₀ (F := F)) 𝒱₀ (c : Thread nD τ) none) Set.univ (kt ⟨⟩) Q)
          -∗ wp frame (wpE (defs₀ (F := F)) 𝒱₀ (c : Thread nD τ) none) Set.univ
            (.op (.store M (Rect.unit (s := Sh3 D R W) off (Sh3 n R W).size inb) v Finset.univ hx hm) kt) Q) := by
  subst hX; unfold raw acc; simp only [hM]
  iintro ⟨%V, H⟩
  iapply (wp_store_held ho (SB x w g 0 c) hv) $$ H

/-- A store of the next running sums over the running sums. -/
theorem wp_store_acc {g : Fin 3} {t : ℕ} (hM : ∀ X V, accHeld (F := F) g c X V = held M c X V) (ho : off = ![o, 0, 0])
    (X : Finset ℕ) (hX : X = Finset.Ico o (o + n))
    {v : (Sh3 n R W).Idx → Elt F .bf16} (hv : ∀ j, v j = SB x w g (t + 1) c (o + (j 0).val) (j 1).val (j 2).val)
    {hx : (M.access (Rect.unit (s := Sh3 D R W) off (Sh3 n R W).size inb)).Stores Finset.univ}
    {hm : (Finset.univ : Finset (Sh3 n R W).Idx) = Finset.univ ∨ ∀ a, (Rect.unit (s := Sh3 D R W) off (Sh3 n R W).size inb).stride a = 1}
    {α : Type} {Q : α → sProp 𝕄} {kt : PUnit → Prog (TpuEff nD τ sig (Elt F) Λ₀ .tc) α} :
    acc (F := F) x w g t c X
      ⊢ iprop((acc x w g (t + 1) c X -∗ wp frame (wpE (defs₀ (F := F)) 𝒱₀ (c : Thread nD τ) none) Set.univ (kt ⟨⟩) Q)
          -∗ wp frame (wpE (defs₀ (F := F)) 𝒱₀ (c : Thread nD τ) none) Set.univ
            (.op (.store M (Rect.unit (s := Sh3 D R W) off (Sh3 n R W).size inb) v Finset.univ hx hm) kt) Q) := by
  subst hX; unfold acc; simp only [hM]
  exact wp_store_held ho (SB x w g (t + 1) c) hv

end Blocks

/-! ## Whole buffers -/

section Whole
variable {c : Dev nD} {D R W : ℕ} [NeZero D] [NeZero R] [NeZero W]

/-- All blocks make up the whole buffer. -/
theorem slab_range : slab D R W (Finset.range D) = Finset.univ := by
  ext i; rw [mem_slab, Finset.mem_range]; exact ⟨fun _ => Finset.mem_univ _, fun _ => (i 0).isLt⟩

/-- A whole buffer is owned block by block. -/
theorem owned_of_whole (M : Memref sig .tc .vmem (Sh3 D R W) .bf16) (f : Buf (Elt F) (M.view.loc (c : Thread nD τ))) :
    (M.view.loc (c : Thread nD τ) ↦[M.view.set]{fullShare} f : sProp 𝕄) ⊢ owned (F := F) M c (Finset.range D) := by
  unfold owned held
  rw [slab_range]
  iintro H
  iexists (fun a b d => M.view.read (Elt F) f (ix3 (Fin.ofNat D a) (Fin.ofNat R b) (Fin.ofNat W d)))
  iexists f
  isplitr
  · ipureintro
    intro i _
    refine congrArg (M.view.read (Elt F) f) ?_
    funext a
    match a with
    | ⟨0, _⟩ => exact Fin.ext (Nat.mod_eq_of_lt (i 0).isLt).symm
    | ⟨1, _⟩ => exact Fin.ext (Nat.mod_eq_of_lt (i 1).isLt).symm
    | ⟨2, _⟩ => exact Fin.ext (Nat.mod_eq_of_lt (i 2).isLt).symm
  iexact H

/-- A buffer owned block by block is whole. -/
theorem whole_of_owned (M : Memref sig .tc .vmem (Sh3 D R W) .bf16) :
    owned (F := F) M c (Finset.range D) ⊢ (iprop(∃ f, M.view.loc (c : Thread nD τ) ↦[M.view.set]{fullShare} f) : sProp 𝕄) := by
  unfold owned held
  rw [slab_range]
  iintro ⟨%V, %f, -, H⟩
  iexists f; iexact H

end Whole

/-! ## The operands and the output -/

/-- The staged operands, and the scale factors' words. -/
def xin (c : Dev nD) : sProp 𝕄 :=
  iprop(((c : Thread nD τ).loc cc0_stg0_0) ↦{fullShare} (show Buf (Elt F) ((c : Thread nD τ).loc cc0_stg0_0) from x c))
/-- The staged right operand. -/
def win (c : Dev nD) : sProp 𝕄 :=
  iprop(((c : Thread nD τ).loc cc0_stg1_0) ↦{fullShare} (show Buf (Elt F) ((c : Thread nD τ).loc cc0_stg1_0) from w c))

/-- Where a rectangle of a matrix places its index. -/
theorem idx_two {A B N W a b : ℕ} [NeZero A] [NeZero B] {off : Fin 2 → ℕ} (ho : off = ![a, b])
    (inb : ∀ i, off i + (⟨2, ![N, W]⟩ : Shape).size i ≤ (⟨2, ![A, B]⟩ : Shape).size i) (j : (⟨2, ![N, W]⟩ : Shape).Idx) :
    (((Rect.unit (s := ⟨2, ![A, B]⟩) off (⟨2, ![N, W]⟩ : Shape).size inb).emb j) 0).val = a + (j 0).val
    ∧ (((Rect.unit (s := ⟨2, ![A, B]⟩) off (⟨2, ![N, W]⟩ : Shape).size inb).emb j) 1).val = b + (j 1).val := by
  subst ho
  refine ⟨?_, ?_⟩ <;> rw [Rect.emb_apply]
  · show a + 1 * (j 0).val = _; rw [Nat.one_mul]
  · show b + 1 * (j 1).val = _; rw [Nat.one_mul]

section Matrices
variable (c : Dev nD) {N W : ℕ} {off : Fin 2 → ℕ}

/-- A load of rows of the left operand from block `o` on. -/
theorem wp_load_rows {o : ℕ} (ho : off = ![512 * o, 0]) {inb : ∀ a, off a + (⟨2, ![N, 512]⟩ : Shape).size a ≤ (⟨2, ![4096, 512]⟩ : Shape).size a}
    {hl : (Memref.whole cc0_stg0_0).view.LoadsAt (Rect.unit (s := ⟨2, ![4096, 512]⟩) off (⟨2, ![N, 512]⟩ : Shape).size inb).toLoadRect}
    {α : Type} {Q : α → sProp 𝕄} {kt : ((⟨2, ![N, 512]⟩ : Shape).Idx → Elt F .i8) → Prog (TpuEff nD τ sig (Elt F) Λ₀ .tc) α} :
    xin (F := F) x c
      ⊢ iprop((xin (F := F) x c -∗ wp frame (wpE (defs₀ (F := F)) 𝒱₀ (c : Thread nD τ) none) Set.univ (kt (xrows x N o c)) Q)
          -∗ wp frame (wpE (defs₀ (F := F)) 𝒱₀ (c : Thread nD τ) none) Set.univ
            (.op (.load (Memref.whole cc0_stg0_0) (Rect.unit (s := ⟨2, ![4096, 512]⟩) off (⟨2, ![N, 512]⟩ : Shape).size inb).toLoadRect hl) kt) Q) := by
  unfold xin
  have hv : (Memref.whole cc0_stg0_0).view.readAt (Elt F) (Rect.unit (s := ⟨2, ![4096, 512]⟩) off (⟨2, ![N, 512]⟩ : Shape).size inb).toLoadRect (x c)
      = xrows x N o c := by
    funext j
    obtain ⟨h0, h1⟩ := idx_two ho inb j
    exact (at2_idx (x c) ((Rect.unit (s := ⟨2, ![4096, 512]⟩) off (⟨2, ![N, 512]⟩ : Shape).size inb).emb j) h0 (h1.trans (Nat.zero_add _))).symm
  iintro H Hk
  iapply (wp_load 𝒱₀ (c : Thread nD τ) none Set.univ (m := Memref.whole cc0_stg0_0) (Finset.subset_univ _)) $$ H
  iintro H
  rw [hv]
  iapply Hk; iexact H

/-- A load of columns of the right operand from column `a` on. -/
theorem wp_load_cols {a : ℕ} (ho : off = ![0, a]) {inb : ∀ i, off i + (⟨2, ![512, W]⟩ : Shape).size i ≤ (⟨2, ![512, 2048]⟩ : Shape).size i}
    {hl : (Memref.whole cc0_stg1_0).view.LoadsAt (Rect.unit (s := ⟨2, ![512, 2048]⟩) off (⟨2, ![512, W]⟩ : Shape).size inb).toLoadRect}
    {α : Type} {Q : α → sProp 𝕄} {kt : ((⟨2, ![512, W]⟩ : Shape).Idx → Elt F .i8) → Prog (TpuEff nD τ sig (Elt F) Λ₀ .tc) α} :
    win (F := F) w c
      ⊢ iprop((win (F := F) w c -∗ wp frame (wpE (defs₀ (F := F)) 𝒱₀ (c : Thread nD τ) none) Set.univ (kt (wcols w W a c)) Q)
          -∗ wp frame (wpE (defs₀ (F := F)) 𝒱₀ (c : Thread nD τ) none) Set.univ
            (.op (.load (Memref.whole cc0_stg1_0) (Rect.unit (s := ⟨2, ![512, 2048]⟩) off (⟨2, ![512, W]⟩ : Shape).size inb).toLoadRect hl) kt) Q) := by
  unfold win
  have hv : (Memref.whole cc0_stg1_0).view.readAt (Elt F) (Rect.unit (s := ⟨2, ![512, 2048]⟩) off (⟨2, ![512, W]⟩ : Shape).size inb).toLoadRect (w c)
      = wcols w W a c := by
    funext j
    obtain ⟨h0, h1⟩ := idx_two ho inb j
    exact (at2_idx (w c) ((Rect.unit (s := ⟨2, ![512, 2048]⟩) off (⟨2, ![512, W]⟩ : Shape).size inb).emb j) (h0.trans (Nat.zero_add _)) h1).symm
  iintro H Hk
  iapply (wp_load 𝒱₀ (c : Thread nD τ) none Set.univ (m := Memref.whole cc0_stg1_0) (Finset.subset_univ _)) $$ H
  iintro H
  rw [hv]
  iapply Hk; iexact H

/-- The group of an output column. -/
def gOf (n : ℕ) : Fin 3 := if n < 640 then 0 else if n < 1280 then 1 else 2

/-- The output entry: the sum after three exchanges, widened to f32 and scaled. -/
def outV (v : F .f32) (c : Dev nD) (i n : ℕ) : F .f32 := scaled v (Sv x w (gOf n) 3 c (512 * c.val + i) n)

/-- The output buffer with its columns in `X` at their final values. -/
def out (v : F .f32) (c : Dev nD) (X : Finset ℕ) : sProp 𝕄 :=
  iprop(∃ f : (⟨2, ![512, 2048]⟩ : Shape).Idx → F .f32, ⌜∀ i, (i 1).val ∈ X → f i = outV x w v c (i 0).val (i 1).val⌝
    ∗ (((c : Thread nD τ).loc cc0_stg4_0) ↦{fullShare} (show Buf (Elt F) ((c : Thread nD τ).loc cc0_stg4_0) from f)))

/-- A load of output columns whose contents do not matter. -/
theorem wp_load_out {v : F .f32} {X : Finset ℕ} {inb : ∀ i, off i + (⟨2, ![512, W]⟩ : Shape).size i ≤ (⟨2, ![512, 2048]⟩ : Shape).size i}
    {hl : (Memref.whole cc0_stg4_0).view.LoadsAt (Rect.unit (s := ⟨2, ![512, 2048]⟩) off (⟨2, ![512, W]⟩ : Shape).size inb).toLoadRect}
    {α : Type} {Q : α → sProp 𝕄} {kt : ((⟨2, ![512, W]⟩ : Shape).Idx → Elt F .f32) → Prog (TpuEff nD τ sig (Elt F) Λ₀ .tc) α} :
    out x w v c X
      ⊢ iprop((∀ b, out x w v c X -∗ wp frame (wpE (defs₀ (F := F)) 𝒱₀ (c : Thread nD τ) none) Set.univ (kt b) Q)
          -∗ wp frame (wpE (defs₀ (F := F)) 𝒱₀ (c : Thread nD τ) none) Set.univ
            (.op (.load (Memref.whole cc0_stg4_0) (Rect.unit (s := ⟨2, ![512, 2048]⟩) off (⟨2, ![512, W]⟩ : Shape).size inb).toLoadRect hl) kt) Q) := by
  unfold out
  iintro ⟨%f, %hf, H⟩ Hk
  iapply (wp_load 𝒱₀ (c : Thread nD τ) none Set.univ (m := Memref.whole cc0_stg4_0) (Finset.subset_univ _)) $$ H
  iintro H
  iapply Hk $$ %_
  iexists f; isplitr
  · ipureintro; exact hf
  iexact H

/-- A store of columns from `a` on, at their final values. -/
theorem wp_store_out {v : F .f32} {X : Finset ℕ} {a : ℕ} (ho : off = ![0, a])
    {inb : ∀ i, off i + (⟨2, ![512, W]⟩ : Shape).size i ≤ (⟨2, ![512, 2048]⟩ : Shape).size i}
    {b : (⟨2, ![512, W]⟩ : Shape).Idx → Elt F .f32} (hb : ∀ j, b j = outV x w v c (j 0).val (a + (j 1).val))
    {hx : ((Memref.whole cc0_stg4_0).access (Rect.unit (s := ⟨2, ![512, 2048]⟩) off (⟨2, ![512, W]⟩ : Shape).size inb)).Stores Finset.univ}
    {hm : (Finset.univ : Finset (⟨2, ![512, W]⟩ : Shape).Idx) = Finset.univ ∨ ∀ i, (Rect.unit (s := ⟨2, ![512, 2048]⟩) off (⟨2, ![512, W]⟩ : Shape).size inb).stride i = 1}
    {α : Type} {Q : α → sProp 𝕄} {kt : PUnit → Prog (TpuEff nD τ sig (Elt F) Λ₀ .tc) α} :
    out x w v c X
      ⊢ iprop((out x w v c (X ∪ Finset.Ico a (a + W)) -∗ wp frame (wpE (defs₀ (F := F)) 𝒱₀ (c : Thread nD τ) none) Set.univ (kt ⟨⟩) Q)
          -∗ wp frame (wpE (defs₀ (F := F)) 𝒱₀ (c : Thread nD τ) none) Set.univ
            (.op (.store (Memref.whole cc0_stg4_0) (Rect.unit (s := ⟨2, ![512, 2048]⟩) off (⟨2, ![512, W]⟩ : Shape).size inb) b Finset.univ hx hm) kt) Q) := by
  unfold out
  iintro ⟨%f, %hf, H⟩ Hk
  iapply (wp_store 𝒱₀ (c : Thread nD τ) none Set.univ (m := Memref.whole cc0_stg4_0)
    (r := Rect.unit (s := ⟨2, ![512, 2048]⟩) off (⟨2, ![512, W]⟩ : Shape).size inb) (Mk := Finset.univ) (Finset.subset_univ _)) $$ H
  iintro H
  iapply Hk
  iexists (((Memref.whole cc0_stg4_0).access (Rect.unit (s := ⟨2, ![512, 2048]⟩) off (⟨2, ![512, W]⟩ : Shape).size inb)).write (Elt F) f b Finset.univ)
  isplitr
  · ipureintro
    intro i hi
    by_cases hin : (i 1).val ∈ Finset.Ico a (a + W)
    · obtain ⟨j, rfl⟩ := LoadRect.exists_idx_of_mem (r := (Rect.unit (s := ⟨2, ![512, 2048]⟩) off (⟨2, ![512, W]⟩ : Shape).size inb).toLoadRect) (i := i) (by
        rw [show (Rect.unit (s := ⟨2, ![512, 2048]⟩) off (⟨2, ![512, W]⟩ : Shape).size inb).toLoadRect.set
          = (Rect.unit (s := ⟨2, ![512, 2048]⟩) off (⟨2, ![512, W]⟩ : Shape).size inb).set from rfl, Rect.mem_set_unit]
        subst ho
        intro d
        fin_cases d
        · exact ⟨Nat.zero_le _, by show (i 0).val < 0 + 512; rw [Nat.zero_add]; exact idx2_lt0 i⟩
        · exact Finset.mem_Ico.mp hin)
      obtain ⟨h0, h1⟩ := idx_two ho inb j
      refine (View.read_slice_write_emb (v := (Memref.whole cc0_stg4_0).view) (Val := Elt F)
        (Rect.unit (s := ⟨2, ![512, 2048]⟩) off (⟨2, ![512, W]⟩ : Shape).size inb) f b (M := Finset.univ) (x := j) (Finset.mem_univ _)).trans ?_
      exact (hb j).trans (congr (congrArg (outV x w v c) (h0.trans (Nat.zero_add _)).symm) h1.symm)
    · refine (View.read_slice_write_of_not_mem (v := (Memref.whole cc0_stg4_0).view) (Val := Elt F)
        (Rect.unit (s := ⟨2, ![512, 2048]⟩) off (⟨2, ![512, W]⟩ : Shape).size inb) f b Finset.univ (y := i) (fun hm => hin ?_)).trans ?_
      · obtain ⟨j, -, rfl⟩ := Finset.mem_map.mp hm
        obtain ⟨h0, h1⟩ := idx_two ho inb j
        rw [h1, Finset.mem_Ico]
        exact ⟨Nat.le_add_right _ _, Nat.add_lt_add_left (idx2_lt1 j) _⟩
      · exact hf i ((Finset.mem_union.mp hi).resolve_right hin)
  iexact H

end Matrices

end Cert.KProof

end
-- ==== Proof.Parts.lean ====
/-
# The parts of the kernel body, each over what it needs
-/
module

public import proofs.«01_k».proof.Proof.Step
public import Idealize.ShloMosaic.Lib.Pointwise.Index

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)
variable (K : Dev nD × Role → ℕ) (c : Dev nD)

/-- A part of the body applied to the launch's buffers and semaphores. -/
abbrev atBufs {β : Sort _} (p : (arg0 : Memref sig .tc .vmem S4096x512 .i8) → arg0.IsWhole → (arg1 : Memref sig .tc .vmem S512x2048 .i8) → arg1.IsWhole →
    (arg2 : Memref sig .tc .smem S1 .f32) → arg2.IsWhole → (arg3 : Memref sig .tc .smem S1 .f32) → arg3.IsWhole →
    (arg4 : Memref sig .tc .vmem S512x2048 .f32) → arg4.IsWhole → (arg5 : Memref sig .tc .vmem S8x512x640 .bf16) → arg5.IsWhole →
    (arg6 : Memref sig .tc .vmem S8x512x640 .bf16) → arg6.IsWhole → (arg7 : Memref sig .tc .vmem S8x512x768 .bf16) → arg7.IsWhole →
    (arg8 : Memref sig .tc .vmem S7x512x640 .bf16) → arg8.IsWhole → (arg9 : Memref sig .tc .vmem S7x512x640 .bf16) → arg9.IsWhole →
    (arg10 : Memref sig .tc .vmem S7x512x768 .bf16) → arg10.IsWhole → DmaSems sig S3 → DmaSems sig S3 → DmaSems sig S5 → DmaSems sig S5 →
    DmaSems sig S7 → DmaSems sig S7 → β) : β :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10 cc0_scratch11

/-- What a part gives its continuation: a program run to `Q` on device `c`. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The body's recurring steps -/

section Steps
variable {D R W n : ℕ} {off : Fin 3 → ℕ}
variable {M : Memref sig .tc .vmem (Sh3 D R W) .bf16} {inb : ∀ a, off a + (Sh3 n R W).size a ≤ (Sh3 D R W).size a}

/-- The device's own contribution to blocks of an accumulator: load the rows, and store their products over the blocks. -/
theorem own {N o : ℕ} {offx : Fin 2 → ℕ} {g : Fin 3} (hM : ∀ X V, accHeld (F := F) g c X V = held M c X V) (hx : offx = ![512 * o, 0]) (ho : off = ![o, 0, 0])
    (X : Finset ℕ) (hX : X = Finset.Ico o (o + n))
    {inx : ∀ a, offx a + (⟨2, ![N, 512]⟩ : Shape).size a ≤ (⟨2, ![4096, 512]⟩ : Shape).size a}
    {hlx : (Memref.whole cc0_stg0_0).view.LoadsAt (Rect.unit (s := ⟨2, ![4096, 512]⟩) offx (⟨2, ![N, 512]⟩ : Shape).size inx).toLoadRect}
    {hl : M.view.LoadsAt (Rect.unit (s := Sh3 D R W) off (Sh3 n R W).size inb).toLoadRect}
    {P : ((⟨2, ![N, 512]⟩ : Shape).Idx → Elt F .i8) → (Sh3 n R W).Idx → Elt F .bf16}
    (hP : ∀ j, P (xrows x N o c) j = SB x w g 0 c (o + (j 0).val) (j 1).val (j 2).val)
    {hs : (M.access (Rect.unit (s := Sh3 D R W) off (Sh3 n R W).size inb)).Stores Finset.univ}
    {hm : (Finset.univ : Finset (Sh3 n R W).Idx) = Finset.univ ∨ ∀ a, (Rect.unit (s := Sh3 D R W) off (Sh3 n R W).size inb).stride a = 1}
    {α : Type} {Q : α → sProp 𝕄} {kt : PUnit → Prog (TpuEff nD τ sig (Elt F) Λ₀ .tc) α} :
    xin (F := F) x c ⊢ iprop(raw (F := F) g c X -∗ (xin (F := F) x c -∗ acc x w g 0 c X -∗ runs c (kt ⟨⟩) Q)
      -∗ runs c (.op (.load (Memref.whole cc0_stg0_0) (Rect.unit (s := ⟨2, ![4096, 512]⟩) offx (⟨2, ![N, 512]⟩ : Shape).size inx).toLoadRect hlx) fun (v : (⟨2, ![N, 512]⟩ : Shape).Idx → Elt F .i8) =>
          .op (.load M (Rect.unit (s := Sh3 D R W) off (Sh3 n R W).size inb).toLoadRect hl) fun _ =>
          .op (.store M (Rect.unit (s := Sh3 D R W) off (Sh3 n R W).size inb) (P v) Finset.univ hs hm) kt) Q) := by
  unfold runs
  iintro Hx Hr Hk
  iapply (wp_load_rows x c hx) $$ Hx
  iintro Hx
  iapply (wp_load_raw c hM ho X hX) $$ Hr
  iintro %v Hr
  iapply (wp_store_raw x w c hM ho X hX hP) $$ Hr
  iintro Hr
  iapply Hk $$ Hx Hr

/-- One exchange's sum: what landed is added to the kept blocks. -/
theorem add (k : Fin 15) (g : Fin 3) (t : ℕ) (hg : grp k = g) (ht : (stg k).val = t) (hn : n = cnt k)
    {D' : ℕ} {off' : Fin 3 → ℕ} {N : Memref sig .tc .vmem (Sh3 D' R W) .bf16} {inb' : ∀ a, off' a + (Sh3 n R W).size a ≤ (Sh3 D' R W).size a}
    (hM : ∀ X V, accHeld (F := F) g c X V = held M c X V) (hN : ∀ X V, rcvHeld (F := F) g c X V = held N c X V)
    (ho : off = ![ko k c, 0, 0]) (ho' : off' = ![dso k, 0, 0])
    {hl₁ hl₂ : M.view.LoadsAt (Rect.unit (s := Sh3 D R W) off (Sh3 n R W).size inb).toLoadRect}
    {hl' : N.view.LoadsAt (Rect.unit (s := Sh3 D' R W) off' (Sh3 n R W).size inb').toLoadRect}
    {P : ((Sh3 n R W).Idx → Elt F .bf16) → ((Sh3 n R W).Idx → Elt F .bf16) → (Sh3 n R W).Idx → Elt F .bf16}
    (hP : ∀ a b, P a b = fun j => FloatOps.addf (a j) (b j))
    {hs : (M.access (Rect.unit (s := Sh3 D R W) off (Sh3 n R W).size inb)).Stores Finset.univ}
    {hm : (Finset.univ : Finset (Sh3 n R W).Idx) = Finset.univ ∨ ∀ a, (Rect.unit (s := Sh3 D R W) off (Sh3 n R W).size inb).stride a = 1}
    {α : Type} {Q : α → sProp 𝕄} {kt : PUnit → Prog (TpuEff nD τ sig (Elt F) Λ₀ .tc) α} :
    acc x w g t c (kslots k c) ⊢ iprop(lnd x w k c -∗ (acc x w g (t + 1) c (kslots k c) -∗ lnd x w k c -∗ runs c (kt ⟨⟩) Q)
      -∗ runs c (.op (.load M (Rect.unit (s := Sh3 D R W) off (Sh3 n R W).size inb).toLoadRect hl₁) fun (a : (Sh3 n R W).Idx → Elt F .bf16) =>
          .op (.load N (Rect.unit (s := Sh3 D' R W) off' (Sh3 n R W).size inb').toLoadRect hl') fun (b : (Sh3 n R W).Idx → Elt F .bf16) =>
          .op (.load M (Rect.unit (s := Sh3 D R W) off (Sh3 n R W).size inb).toLoadRect hl₂) fun _ =>
          .op (.store M (Rect.unit (s := Sh3 D R W) off (Sh3 n R W).size inb) (P a b) Finset.univ hs hm) kt) Q) := by
  subst hg ht hn
  unfold runs
  iintro Hk Hl Hc
  iapply (wp_load_acc x w c hM ho (kslots k c) rfl) $$ Hk
  iintro Hk
  iapply (wp_load_lnd x w c (k := k) hN ho' rfl) $$ Hl
  iintro Hl
  iapply (wp_load_acc x w c hM ho (kslots k c) rfl) $$ Hk
  iintro Hk
  iapply (wp_store_acc x w c hM ho (kslots k c) rfl (fun j => (congrFun (hP _ _) j).trans (add_RV x w k c _ _ _))) $$ Hk
  iintro Hk
  iapply Hc $$ Hk Hl

end Steps

section Waits

/-- Waiting for copy `k`'s source. -/
theorem sent (k : Fin 15) (g : Fin 3) (t : ℕ) (hg : grp k = g) (ht : (stg k).val = t) (n : ℕ) (hkn : k.val < n) {sS : DmaSem sig} (hS : sS = sndS k)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt k)
    {α : Type} {Q : α → sProp 𝕄} {kt : PUnit → Prog (TpuEff nD τ sig (Elt F) Λ₀ .tc) α} :
    known x w K ⊢ iprop(flying k c -∗ owing n c -∗ (half k c -∗ acc x w g t c (sslots k c) -∗ owing n c -∗ runs c (kt ⟨⟩) Q)
      -∗ runs c (.op (.waitDma2 sS src dst hsrc hdst) kt) Q) := by
  unfold runs
  iintro #HK Hf HO Hk
  iapply (wp_wait_send x w K c k hg ht hkn hS hamt) $$ [Hf HO]
  · isplitr; · iexact HK
    isplitl [Hf] <;> iassumption
  iintro ⟨Hf, Hs, HO⟩
  iapply Hk $$ Hf Hs HO

/-- Waiting for the partner's copy `k`. -/
theorem landed (k : Fin 15) (n : ℕ) (hkn : k.val < n) {sR : DmaSem sig} (hR : sR = rcvS k)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = amt k)
    {α : Type} {Q : α → sProp 𝕄} {kt : PUnit → Prog (TpuEff nD τ sig (Elt F) Λ₀ .tc) α} :
    known x w K ⊢ iprop(half k c -∗ owing n c -∗ (fin k c -∗ lnd x w k c -∗ owing n c -∗ runs c (kt ⟨⟩) Q)
      -∗ runs c (.op (.waitDma2 sR src dst hsrc hdst) kt) Q) := by
  unfold runs
  iintro #HK Hf HO Hk
  iapply (wp_wait_recv x w K c k hkn hR hamt) $$ [Hf HO]
  · isplitr; · iexact HK
    isplitl [Hf] <;> iassumption
  iintro ⟨Hf, Hs, HO⟩
  iapply Hk $$ Hf Hs HO

end Waits

section Copy
variable {D₁ D₂ R W : ℕ}
variable {M : Memref sig .tc .vmem (Sh3 D₁ R W) .bf16} {N : Memref sig .tc .vmem (Sh3 D₂ R W) .bf16}

/-- Starting copy `k`. -/
theorem copy (k : Fin 15) (g : Fin 3) (t : ℕ) (hg : grp k = g) (ht : (stg k).val = t)
    (hM : ∀ X V, accHeld (F := F) g c X V = held M c X V) (hN : ∀ X V, rcvHeld (F := F) g (peer k c) X V = held N (peer k c) X V)
    {p : Dev nD} (hp : p = peer k c) {off₁ off₂ : Fin 3 → ℕ} (h₁ : off₁ = ![so k c, 0, 0]) (h₂ : off₂ = ![dso k, 0, 0])
    {n : ℕ} (hn : n = cnt k)
    {inb₁ : ∀ a, off₁ a + (Sh3 n R W).size a ≤ (Sh3 D₁ R W).size a} {inb₂ : ∀ a, off₂ a + (Sh3 n R W).size a ≤ (Sh3 D₂ R W).size a}
    {hs₁ : ∀ a, (Rect.unit (s := Sh3 D₁ R W) off₁ (Sh3 n R W).size inb₁).stride a = 1}
    {hs₂ : ∀ a, (Rect.unit (s := Sh3 D₂ R W) off₂ (Sh3 n R W).size inb₂).stride a = 1}
    {sS sR : DmaSem sig} (hS : sS = sndS k) (hR : sR = rcvS k)
    (hamt : (N.slice (Rect.unit (s := Sh3 D₂ R W) off₂ (Sh3 n R W).size inb₂) hs₂).view.amount (.dma sR) = amt k)
    (m : ℕ) (hm : m = k.val)
    {hsc : (N.slice (Rect.unit (s := Sh3 D₂ R W) off₂ (Sh3 n R W).size inb₂) hs₂ : Memref sig (Dev.tc p : Thread nD τ).2.kind .vmem _ .bf16).view.ref.isScScratch = false}
    {hsrc : (M.slice (Rect.unit (s := Sh3 D₁ R W) off₁ (Sh3 n R W).size inb₁) hs₁).view.WordExact}
    {hdst : (N.slice (Rect.unit (s := Sh3 D₂ R W) off₂ (Sh3 n R W).size inb₂) hs₂).view.WordExact}
    {hsem : DmaTarget.Typed .vmem (.dma sR) (.remote (Dev.tc p : Thread nD τ) (N.slice (Rect.unit (s := Sh3 D₂ R W) off₂ (Sh3 n R W).size inb₂) hs₂) (.dma sS) hsc)}
    {α : Type} {Q : α → sProp 𝕄} {kt : PUnit → Prog (TpuEff nD τ sig (Elt F) Λ₀ .tc) α} :
    known x w K ⊢ iprop(idle k c -∗ acc x w g t c (sslots k c) -∗ land (F := F) k (peer k c) -∗ owing m c
      -∗ (flying k c -∗ owing (m + 1) c -∗ runs c (kt ⟨⟩) Q)
      -∗ runs c (.op (.enqueueDma (M.slice (Rect.unit (s := Sh3 D₁ R W) off₁ (Sh3 n R W).size inb₁) hs₁)
          (.remote (Dev.tc p : Thread nD τ) (N.slice (Rect.unit (s := Sh3 D₂ R W) off₂ (Sh3 n R W).size inb₂) hs₂) (.dma sS) hsc)
          (.dma sR) hsrc hdst hsem) kt) Q) := by
  subst hm
  unfold runs
  iintro #HK Hi Hs Hl HO Hk
  iapply (wp_copy x w K c k hg ht hM hN hp h₁ h₂ hn hS hR hamt) $$ [Hi Hs Hl HO]
  · isplitr; · iexact HK
    isplitl [Hi]; · iexact Hi
    isplitl [Hs]; · iexact Hs
    isplitl [Hl] <;> iassumption
  iintro ⟨Hf, HO⟩
  iapply Hk $$ Hf HO

end Copy

/-- The weight's columns of the three groups. -/
abbrev w0 : (⟨2, ![512, 640]⟩ : Shape).Idx → BitVec 8 := wcols w 640 (col 0) c
/-- The second group's columns. -/
abbrev w1 : (⟨2, ![512, 640]⟩ : Shape).Idx → BitVec 8 := wcols w 640 (col 1) c
/-- The third group's columns. -/
abbrev w2 : (⟨2, ![512, 768]⟩ : Shape).Idx → BitVec 8 := wcols w 768 (col 2) c

/-- The staged scale factors. -/
def sin2 (a : F .f32) : sProp 𝕄 :=
  iprop(((c : Thread nD τ).loc cc0_stg2_0) ↦{fullShare} (fun _ => a : S1.Idx → F .f32))
/-- The second staged scale factor. -/
def sin3 (a : F .f32) : sProp 𝕄 :=
  iprop(((c : Thread nD τ).loc cc0_stg3_0) ↦{fullShare} (fun _ => a : S1.Idx → F .f32))

/-- What a scale factor's word reads. -/
theorem word2 (a : F .f32) (i : (Rect.unit (s := S1) ![0] S1.size inb_S1_S1_0).shape.Idx) :
    ((Memref.whole cc0_stg2_0).access (Rect.unit (s := S1) ![0] S1.size inb_S1_S1_0)).read (Elt F) (fun _ => a : S1.Idx → F .f32) i = a := rfl
/-- What the second scale factor's word reads. -/
theorem word3 (a : F .f32) (i : (Rect.unit (s := S1) ![0] S1.size inb_S1_S1_0).shape.Idx) :
    ((Memref.whole cc0_stg3_0).access (Rect.unit (s := S1) ![0] S1.size inb_S1_S1_0)).read (Elt F) (fun _ => a : S1.Idx → F .f32) i = a := rfl

/-! ## The output's values -/

/-- The last copies land on the device's own block. -/
theorem ko_last (k : Fin 15) (h : k.val = 12 ∨ k.val = 13 ∨ k.val = 14) : ko k c = c.val := by
  revert k c; decide +kernel

/-- A last sum, scaled: an entry of the device's own block of the output. -/
theorem out_entry (k : Fin 15) (v : F .f32) (h : k.val = 12 ∨ k.val = 13 ∨ k.val = 14) (i j : ℕ) (hg : gOf (col (grp k) + j) = grp k) :
    scaled v (FloatOps.addf (SB x w (grp k) 2 c (ko k c + 0) i j) (RV x w k c (dso k + 0) i j)) = outV x w v c i (col (grp k) + j) := by
  have hs : (stg k).val = 2 := by revert h; clear hg; revert k; decide
  have ha := add_RV (F := F) x w k c 0 i j
  rw [hs] at ha
  rw [ha]
  unfold outV SB
  rw [hg, ko_last c k h]
  rfl

/-- The third group's result. -/
theorem out34 (v : F .f32) (j : S512x768.Idx) :
    k0_pay34 v (sbv x w c 2 2 (ko 13 c)) (rvv x w c 13) j = outV x w v c (j 0).val (1280 + (j 1).val) := by
  rw [ValueIdx.eq_ix2 j]
  refine (pay34_eq v _ _ (j 0) (j 1)).trans ?_
  refine out_entry x w c 13 v (by decide) (j 0).val (j 1).val ?_
  unfold gOf; rw [if_neg (by show ¬(1280 + _ < 640); omega), if_neg (by show ¬(1280 + _ < 1280); omega)]; rfl
/-- The first group's result. -/
theorem out35 (v : F .f32) (j : S512x640.Idx) :
    k0_pay35 v (sbv x w c 0 2 (ko 12 c)) (rvv x w c 12) j = outV x w v c (j 0).val (0 + (j 1).val) := by
  have h1 : (j 1).val < 640 := idx2_lt1 j
  rw [ValueIdx.eq_ix2 j]
  refine (pay35_eq v _ _ (j 0) (j 1)).trans ?_
  refine out_entry x w c 12 v (by decide) (j 0).val (j 1).val ?_
  unfold gOf; rw [if_pos (by show 0 + _ < 640; omega)]; rfl
/-- The second group's result. -/
theorem out36 (v : F .f32) (j : S512x640.Idx) :
    k0_pay36 v (sbv x w c 1 2 (ko 14 c)) (rvv x w c 14) j = outV x w v c (j 0).val (640 + (j 1).val) := by
  have h1 : (j 1).val < 640 := idx2_lt1 j
  rw [ValueIdx.eq_ix2 j, pay36_eq]
  refine (pay35_eq v _ _ (j 0) (j 1)).trans ?_
  refine out_entry x w c 14 v (by decide) (j 0).val (j 1).val ?_
  unfold gOf; rw [if_neg (by show ¬(640 + _ < 640); omega), if_pos (by show 640 + _ < 1280; omega)]; rfl

/-! ## The parts -/

set_option maxHeartbeats 2000000 in
/-- The first group's blocks for its first exchange, and their copy; the rows of the second group's first. -/
theorem part2 (v2 v3 v5 v25 c4 : BitVec 32) (Q : (Σ' (v42 : BitVec 32), FVec F S2x512x640 .bf16) → sProp 𝕄) :
    known x w K ⊢ iprop(xin x c -∗ raw (F := F) 0 c (sslots 0 c) -∗ idle 0 c -∗ land (F := F) 0 (peer 0 c) -∗ owing (F := F) 0 c
      -∗ (∀ v42 : BitVec 32, xin x c -∗ flying 0 c -∗ owing (F := F) 1 c -∗ Q ⟨v42, k0_pay5 (w1 w c) (xrows x 1024 (so 1 c) c)⟩)
      -∗ runs c (atBufs (k0_part2 (F := F)) c v2 v3 v5 (w0 w c) (w1 w c) v25 c4) Q) := by
  unfold atBufs
  rw [k0_part2_eq_skeleton]
  unfold k0_part2_skel
  simp only [Prog.lift, Prog.bind_op, Prog.bind_ret, Prog.pure_eq_ret]
  iintro #HK Hx Hr0 Hi0 Hd0 HO Hk
  iapply (own x w c (fun _ _ => rfl) (off1_eq c) (off2_eq c) (sslots 0 c) rfl (pay4_eq x w c _)) $$ Hx Hr0
  iintro Hx Hs0
  iapply (copy x w K c 0 0 0 rfl rfl (fun _ _ => rfl) (fun _ _ => rfl) (dev4_eq c) (off3_eq c) rfl rfl rfl rfl rfl 0 rfl) $$ HK Hi0 Hs0 Hd0 HO
  iintro Hf0 HO
  unfold runs
  iapply (wp_load_rows x c (off4_eq c)) $$ Hx
  iintro Hx
  try unfold runs
  rw [wp_ret]; imodintro
  iapply Hk $$ %_ Hx Hf0 HO

set_option maxHeartbeats 2000000 in
/-- The second group's blocks for its first exchange. -/
theorem part3 (v2 v5 : BitVec 32) (Q : (Σ' (v85 : BitVec 32), BitVec 32) → sProp 𝕄) :
    known x w K ⊢ iprop(xin x c -∗ raw (F := F) 1 c (sslots 1 c) -∗ raw (F := F) 1 c (sslots 2 c)
      -∗ (∀ v85 : BitVec 32, ∀ v89 : BitVec 32, xin x c -∗ acc x w 1 0 c (sslots 1 c) -∗ acc x w 1 0 c (sslots 2 c) -∗ Q ⟨v85, v89⟩)
      -∗ runs c (atBufs (k0_part3 (F := F)) c v2 v5 (w1 w c) (k0_pay5 (w1 w c) (xrows x 1024 (so 1 c) c))) Q) := by
  unfold atBufs
  rw [k0_part3_eq_skeleton]
  unfold k0_part3_skel
  simp only [Prog.lift, Prog.bind_op, Prog.bind_ret, Prog.pure_eq_ret]
  iintro #HK Hx Hr1 Hr2 Hk
  unfold runs
  iapply (wp_load_raw c (fun _ _ => rfl) (off5_eq c) (sslots 1 c) rfl) $$ Hr1
  iintro %v Hr1
  iapply (wp_store_raw x w c (fun _ _ => rfl) (off5_eq c) (sslots 1 c) rfl (pay6_eq x w c _)) $$ Hr1
  iintro Hs1
  iapply (own x w c (fun _ _ => rfl) (off6_eq c) (off7_eq c) (sslots 2 c) rfl (pay7_eq x w c _)) $$ Hx Hr2
  iintro Hx Hs2

  try unfold runs
  rw [wp_ret]; imodintro
  iapply Hk $$ %_ %_ Hx Hs1 Hs2

set_option maxHeartbeats 2000000 in
/-- Their two copies. -/
theorem part4 (v8 v89 : BitVec 32) (Q : (Σ' (v108 : BitVec 32) (v110 : BitVec 32) (v112 : BitVec 32) (v114 : BitVec 32) (v116 : BitVec 32) (v117 : BitVec 1), BitVec 32) → sProp 𝕄) :
    known x w K ⊢ iprop(idle 1 c -∗ acc x w 1 0 c (sslots 1 c) -∗ land (F := F) 1 (peer 1 c) -∗ idle 2 c -∗ acc x w 1 0 c (sslots 2 c) -∗ land (F := F) 2 (peer 2 c) -∗ owing (F := F) 1 c
      -∗ (∀ v108 : BitVec 32, ∀ v110 : BitVec 32, ∀ v112 : BitVec 32, ∀ v114 : BitVec 32, ∀ v116 : BitVec 32, ∀ c3 : BitVec 32, ∀ v117 : BitVec 1, flying 1 c -∗ flying 2 c -∗ owing (F := F) 3 c -∗ Q ⟨v108, v110, v112, v114, v116, v117, c3⟩)
      -∗ runs c (atBufs (k0_part4 (F := F)) c v8 v89) Q) := by
  unfold atBufs
  rw [k0_part4_eq_skeleton]
  unfold k0_part4_skel
  simp only [Prog.lift, Prog.bind_op, Prog.bind_ret, Prog.pure_eq_ret]
  iintro #HK Hi1 Hs1 Hd1 Hi2 Hs2 Hd2 HO Hk
  iapply (copy x w K c 1 1 0 rfl rfl (fun _ _ => rfl) (fun _ _ => rfl) (dev5_eq c) (off8_eq c) rfl rfl rfl rfl rfl 1 rfl) $$ HK Hi1 Hs1 Hd1 HO
  iintro Hf1 HO
  iapply (copy x w K c 2 1 0 rfl rfl (fun _ _ => rfl) (fun _ _ => rfl) (dev6_eq c) (off9_eq c) rfl rfl rfl rfl rfl 2 rfl) $$ HK Hi2 Hs2 Hd2 HO
  iintro Hf2 HO

  try unfold runs
  rw [wp_ret]; imodintro
  iapply Hk $$ %_ %_ %_ %_ %_ %_ %_ Hf1 Hf2 HO

set_option maxHeartbeats 2000000 in
/-- The third group's first two blocks for its first exchange. -/
theorem part5 (v2 v8 v108 v110 : BitVec 32) (v117 : BitVec 1) (c3 : BitVec 32) (Q : (Σ' (v118 : BitVec 32) (v120 : BitVec 32) (v122 : BitVec 32) (v145 : BitVec 32), BitVec 32) → sProp 𝕄) :
    known x w K ⊢ iprop(xin x c -∗ raw (F := F) 2 c (sslots 3 c) -∗ raw (F := F) 2 c (sslots 4 c)
      -∗ (∀ v118 : BitVec 32, ∀ v120 : BitVec 32, ∀ v122 : BitVec 32, ∀ v145 : BitVec 32, ∀ v146 : BitVec 32, xin x c -∗ acc x w 2 0 c (sslots 3 c) -∗ acc x w 2 0 c (sslots 4 c) -∗ Q ⟨v118, v120, v122, v145, v146⟩)
      -∗ runs c (atBufs (k0_part5 (F := F)) c v2 v8 (w2 w c) v108 v110 v117 c3) Q) := by
  unfold atBufs
  rw [k0_part5_eq_skeleton]
  unfold k0_part5_skel
  simp only [Prog.lift, Prog.bind_op, Prog.bind_ret, Prog.pure_eq_ret]
  iintro #HK Hx Hr3 Hr4 Hk
  iapply (own x w c (fun _ _ => rfl) (off10_eq c 0) (off11_eq c 0) (sslots 3 c) rfl (pay8_eq x w c _)) $$ Hx Hr3
  iintro Hx Hs3
  iapply (own x w c (fun _ _ => rfl) (off10_eq c 1) (off11_eq c 1) (sslots 4 c) rfl (pay8_eq x w c _)) $$ Hx Hr4
  iintro Hx Hs4

  try unfold runs
  rw [wp_ret]; imodintro
  iapply Hk $$ %_ %_ %_ %_ %_ Hx Hs3 Hs4

set_option maxHeartbeats 2000000 in
/-- Their copies, and the next two blocks. -/
theorem part6 (v112 v114 v146 : BitVec 32) (Q : PUnit → sProp 𝕄) :
    known x w K ⊢ iprop(xin x c -∗ idle 3 c -∗ acc x w 2 0 c (sslots 3 c) -∗ land (F := F) 3 (peer 3 c) -∗ idle 4 c -∗ acc x w 2 0 c (sslots 4 c) -∗ land (F := F) 4 (peer 4 c) -∗ raw (F := F) 2 c (sslots 5 c) -∗ raw (F := F) 2 c (sslots 6 c) -∗ owing (F := F) 3 c
      -∗ (xin x c -∗ flying 3 c -∗ flying 4 c -∗ acc x w 2 0 c (sslots 5 c) -∗ acc x w 2 0 c (sslots 6 c) -∗ owing (F := F) 5 c -∗ Q ⟨⟩)
      -∗ runs c (atBufs (k0_part6 (F := F)) c (w2 w c) v112 v114 v146) Q) := by
  unfold atBufs
  rw [k0_part6_eq_skeleton]
  unfold k0_part6_skel
  simp only [Prog.lift, Prog.bind_op, Prog.bind_ret, Prog.pure_eq_ret]
  iintro #HK Hx Hi3 Hs3 Hd3 Hi4 Hs4 Hd4 Hr5 Hr6 HO Hk
  iapply (copy x w K c 3 2 0 rfl rfl (fun _ _ => rfl) (fun _ _ => rfl) (dev7_eq c) (off12_eq c 0) rfl rfl rfl rfl rfl 3 rfl) $$ HK Hi3 Hs3 Hd3 HO
  iintro Hf3 HO
  iapply (copy x w K c 4 2 0 rfl rfl (fun _ _ => rfl) (fun _ _ => rfl) (dev8_eq c) (off12_eq c 1) rfl rfl rfl rfl rfl 4 rfl) $$ HK Hi4 Hs4 Hd4 HO
  iintro Hf4 HO
  iapply (own x w c (fun _ _ => rfl) (off10_eq c 2) (off11_eq c 2) (sslots 5 c) rfl (pay8_eq x w c _)) $$ Hx Hr5
  iintro Hx Hs5
  iapply (own x w c (fun _ _ => rfl) (off10_eq c 3) (off11_eq c 3) (sslots 6 c) rfl (pay8_eq x w c _)) $$ Hx Hr6
  iintro Hx Hs6

  try unfold runs
  rw [wp_ret]; imodintro
  iapply Hk $$  Hx Hf3 Hf4 Hs5 Hs6 HO

set_option maxHeartbeats 2000000 in
/-- The kept blocks of the first group and of half the second. -/
theorem part7 (v3 v5 : BitVec 32) (Q : (Σ' (v219 : FVec F S2x512x640 .bf16), BitVec 32) → sProp 𝕄) :
    known x w K ⊢ iprop(xin x c -∗ raw (F := F) 0 c (kslots 0 c) -∗ raw (F := F) 1 c (kslots 1 c)
      -∗ (∀ v221 : BitVec 32, xin x c -∗ acc x w 0 0 c (kslots 0 c) -∗ acc x w 1 0 c (kslots 1 c) -∗ Q ⟨k0_pay14 (w1 w c) (xrows x 1024 (ko 2 c) c), v221⟩)
      -∗ runs c (atBufs (k0_part7 (F := F)) c v3 v5 (w0 w c) (w1 w c)) Q) := by
  unfold atBufs
  rw [k0_part7_eq_skeleton]
  unfold k0_part7_skel
  simp only [Prog.lift, Prog.bind_op, Prog.bind_ret, Prog.pure_eq_ret]
  iintro #HK Hx Hr0 Hr1 Hk
  iapply (own x w c (fun _ _ => rfl) (off13_eq c) (off14_eq c) (kslots 0 c) rfl (pay12_eq x w c _)) $$ Hx Hr0
  iintro Hx Hk0
  iapply (own x w c (fun _ _ => rfl) (off15_eq c) (off16_eq c) (kslots 1 c) rfl (pay13_eq x w c _)) $$ Hx Hr1
  iintro Hx Hk1
  unfold runs
  iapply (wp_load_rows x c (off17_eq c)) $$ Hx
  iintro Hx
  try unfold runs
  rw [wp_ret]; imodintro
  iapply Hk $$ %_ Hx Hk0 Hk1

set_option maxHeartbeats 2000000 in
/-- The other half's, and the third group's first three kept blocks. -/
theorem part8 (v116 v118 v120 v122 v221 : BitVec 32) (Q : BitVec 32 → sProp 𝕄) :
    known x w K ⊢ iprop(xin x c -∗ raw (F := F) 1 c (kslots 2 c) -∗ raw (F := F) 2 c (kslots 3 c) -∗ raw (F := F) 2 c (kslots 4 c) -∗ raw (F := F) 2 c (kslots 5 c)
      -∗ (∀ v259 : BitVec 32, xin x c -∗ acc x w 1 0 c (kslots 2 c) -∗ acc x w 2 0 c (kslots 3 c) -∗ acc x w 2 0 c (kslots 4 c) -∗ acc x w 2 0 c (kslots 5 c) -∗ Q v259)
      -∗ runs c (atBufs (k0_part8 (F := F)) c (w2 w c) v116 v118 v120 v122 (k0_pay14 (w1 w c) (xrows x 1024 (ko 2 c) c)) v221) Q) := by
  unfold atBufs
  rw [k0_part8_eq_skeleton]
  unfold k0_part8_skel
  simp only [Prog.lift, Prog.bind_op, Prog.bind_ret, Prog.pure_eq_ret]
  iintro #HK Hx Hr2 Hr3 Hr4 Hr5 Hk
  unfold runs
  iapply (wp_load_raw c (fun _ _ => rfl) (off18_eq c) (kslots 2 c) rfl) $$ Hr2
  iintro %v Hr2
  iapply (wp_store_raw x w c (fun _ _ => rfl) (off18_eq c) (kslots 2 c) rfl (pay15_eq x w c _)) $$ Hr2
  iintro Hk2
  iapply (own x w c (fun _ _ => rfl) (off19_eq c 0) (off20_eq c 0) (kslots 3 c) rfl (pay8_eq x w c _)) $$ Hx Hr3
  iintro Hx Hk3
  iapply (own x w c (fun _ _ => rfl) (off19_eq c 1) (off20_eq c 1) (kslots 4 c) rfl (pay8_eq x w c _)) $$ Hx Hr4
  iintro Hx Hk4
  iapply (own x w c (fun _ _ => rfl) (off19_eq c 2) (off20_eq c 2) (kslots 5 c) rfl (pay8_eq x w c _)) $$ Hx Hr5
  iintro Hx Hk5

  try unfold runs
  rw [wp_ret]; imodintro
  iapply Hk $$ %_ Hx Hk2 Hk3 Hk4 Hk5

set_option maxHeartbeats 2000000 in
/-- The last kept block of the third group, then the first exchange of its first pair. -/
theorem part9 (v116 v122 v145 v259 : BitVec 32) (Q : PUnit → sProp 𝕄) :
    known x w K ⊢ iprop(xin x c -∗ raw (F := F) 2 c (kslots 6 c) -∗ flying 3 c -∗ acc x w 2 0 c (kslots 3 c) -∗ owing (F := F) 5 c
      -∗ (xin x c -∗ acc x w 2 0 c (kslots 6 c) -∗ acc x w 2 0 c (sslots 3 c) -∗ acc x w 2 1 c (kslots 3 c) -∗ lnd x w 3 c -∗ fin 3 c -∗ owing (F := F) 5 c -∗ Q ⟨⟩)
      -∗ runs c (atBufs (k0_part9 (F := F)) c (w2 w c) v116 v122 v145 v259) Q) := by
  unfold atBufs
  rw [k0_part9_eq_skeleton]
  unfold k0_part9_skel
  simp only [Prog.lift, Prog.bind_op, Prog.bind_ret, Prog.pure_eq_ret]
  iintro #HK Hx Hr6 Hf3 Hk3 HO Hk
  iapply (own x w c (fun _ _ => rfl) (off19_eq c 3) (off20_eq c 3) (kslots 6 c) rfl (pay8_eq x w c _)) $$ Hx Hr6
  iintro Hx Hk6
  iapply (sent x w K c 3 2 0 rfl rfl 5 (by decide) rfl rfl) $$ HK Hf3 HO
  iintro Hf3 Hs3 HO
  iapply (landed x w K c 3 5 (by decide) rfl rfl) $$ HK Hf3 HO
  iintro Hf3 Hl3 HO
  iapply (add x w c 3 2 0 rfl rfl rfl (fun _ _ => rfl) (fun _ _ => rfl) (off20_eq c 0) rfl pay20_eq) $$ Hk3 Hl3
  iintro Hk3 Hl3

  try unfold runs
  rw [wp_ret]; imodintro
  iapply Hk $$  Hx Hk6 Hs3 Hk3 Hl3 Hf3 HO

set_option maxHeartbeats 2000000 in
/-- The third group's third copy, and the arrival of its second. -/
theorem part10 (v2 v118 v146 : BitVec 32) (Q : (Σ' (v288 : BitVec 32), FVec F S1x512x768 .bf16) → sProp 𝕄) :
    known x w K ⊢ iprop(idle 5 c -∗ acc x w 2 0 c (sslots 5 c) -∗ land (F := F) 5 (peer 5 c) -∗ flying 4 c -∗ acc x w 2 0 c (kslots 4 c) -∗ owing (F := F) 5 c
      -∗ (∀ v288 : BitVec 32, flying 5 c -∗ acc x w 2 0 c (sslots 4 c) -∗ acc x w 2 0 c (kslots 4 c) -∗ lnd x w 4 c -∗ fin 4 c -∗ owing (F := F) 6 c -∗ Q ⟨v288, k0_pay21 (sbv x w c 2 0 (ko 4 c) (n := cnt 4) (R := 512) (W := 768)) (rvv x w c 4 (n := cnt 4) (R := 512) (W := 768))⟩)
      -∗ runs c (atBufs (k0_part10 (F := F)) c v2 v118 v146) Q) := by
  unfold atBufs
  rw [k0_part10_eq_skeleton]
  unfold k0_part10_skel
  simp only [Prog.lift, Prog.bind_op, Prog.bind_ret, Prog.pure_eq_ret]
  iintro #HK Hi5 Hs5 Hd5 Hf4 Hk4 HO Hk
  iapply (copy x w K c 5 2 0 rfl rfl (fun _ _ => rfl) (fun _ _ => rfl) (dev9_eq c) (off12_eq c 2) rfl rfl rfl rfl rfl 5 rfl) $$ HK Hi5 Hs5 Hd5 HO
  iintro Hf5 HO
  iapply (sent x w K c 4 2 0 rfl rfl 6 (by decide) rfl rfl) $$ HK Hf4 HO
  iintro Hf4 Hs4 HO
  iapply (landed x w K c 4 6 (by decide) rfl rfl) $$ HK Hf4 HO
  iintro Hf4 Hl4 HO
  unfold runs
  iapply (wp_load_acc x w c (o := ko 4 c) (fun _ _ => rfl) (off20_eq c 1) (kslots 4 c) rfl) $$ Hk4
  iintro Hk4
  iapply (wp_load_lnd x w c (k := 4) (fun _ _ => rfl) rfl rfl) $$ Hl4
  iintro Hl4
  try unfold runs
  rw [wp_ret]; imodintro
  iapply Hk $$ %_ Hf5 Hs4 Hk4 Hl4 Hf4 HO

set_option maxHeartbeats 2000000 in
/-- The sum of the second; the fourth copy; the arrival of the second group's first. -/
theorem part11 (v2 v5 v85 : BitVec 32) (Q : (Σ' (v315 : BitVec 32), Vec F S2x512x640 .bf16) → sProp 𝕄) :
    known x w K ⊢ iprop(acc x w 2 0 c (kslots 4 c) -∗ idle 6 c -∗ acc x w 2 0 c (sslots 6 c) -∗ land (F := F) 6 (peer 6 c) -∗ flying 1 c -∗ acc x w 1 0 c (kslots 1 c) -∗ owing (F := F) 6 c
      -∗ (∀ v315 : BitVec 32, acc x w 2 1 c (kslots 4 c) -∗ flying 6 c -∗ acc x w 1 0 c (sslots 1 c) -∗ acc x w 1 0 c (kslots 1 c) -∗ lnd x w 1 c -∗ fin 1 c -∗ owing (F := F) 7 c -∗ Q ⟨v315, sbv x w c 1 0 (ko 1 c) (n := cnt 1) (R := 512) (W := 640)⟩)
      -∗ runs c (atBufs (k0_part11 (F := F)) c v2 v5 v85 (k0_pay21 (sbv x w c 2 0 (ko 4 c) (n := cnt 4) (R := 512) (W := 768)) (rvv x w c 4 (n := cnt 4) (R := 512) (W := 768)))) Q) := by
  unfold atBufs
  rw [k0_part11_eq_skeleton]
  unfold k0_part11_skel
  simp only [Prog.lift, Prog.bind_op, Prog.bind_ret, Prog.pure_eq_ret]
  iintro #HK Hk4 Hi6 Hs6 Hd6 Hf1 Hk1 HO Hk
  unfold runs
  iapply (wp_load_acc x w c (fun _ _ => rfl) (off20_eq c 1) (kslots 4 c) rfl) $$ Hk4
  iintro Hk4
  iapply (wp_store_acc x w c (fun _ _ => rfl) (off20_eq c 1) (kslots 4 c) rfl (fun j => (congrFun (pay22_eq _ _) j).trans (add_RV x w 4 c _ _ _))) $$ Hk4
  iintro Hk4
  iapply (copy x w K c 6 2 0 rfl rfl (fun _ _ => rfl) (fun _ _ => rfl) (dev10_eq c) (off12_eq c 3) rfl rfl rfl rfl rfl 6 rfl) $$ HK Hi6 Hs6 Hd6 HO
  iintro Hf6 HO
  iapply (sent x w K c 1 1 0 rfl rfl 7 (by decide) rfl rfl) $$ HK Hf1 HO
  iintro Hf1 Hs1 HO
  iapply (landed x w K c 1 7 (by decide) rfl rfl) $$ HK Hf1 HO
  iintro Hf1 Hl1 HO
  unfold runs
  iapply (wp_load_acc x w c (o := ko 1 c) (fun _ _ => rfl) (off16_eq c) (kslots 1 c) rfl) $$ Hk1
  iintro Hk1
  try unfold runs
  rw [wp_ret]; imodintro
  iapply Hk $$ %_ Hk4 Hf6 Hs1 Hk1 Hl1 Hf1 HO

set_option maxHeartbeats 2000000 in
/-- Its sum; the arrival and the sum of the third group's third. -/
theorem part12 (v5 v120 v288 : BitVec 32) (Q : PUnit → sProp 𝕄) :
    known x w K ⊢ iprop(lnd x w 1 c -∗ acc x w 1 0 c (kslots 1 c) -∗ flying 5 c -∗ acc x w 2 0 c (kslots 5 c) -∗ owing (F := F) 7 c
      -∗ (lnd x w 1 c -∗ acc x w 1 1 c (kslots 1 c) -∗ acc x w 2 0 c (sslots 5 c) -∗ acc x w 2 1 c (kslots 5 c) -∗ lnd x w 5 c -∗ fin 5 c -∗ owing (F := F) 7 c -∗ Q ⟨⟩)
      -∗ runs c (atBufs (k0_part12 (F := F)) c v5 v120 v288 (sbv x w c 1 0 (ko 1 c) (n := cnt 1) (R := 512) (W := 640))) Q) := by
  unfold atBufs
  rw [k0_part12_eq_skeleton]
  unfold k0_part12_skel
  simp only [Prog.lift, Prog.bind_op, Prog.bind_ret, Prog.pure_eq_ret]
  iintro #HK Hl1 Hk1 Hf5 Hk5 HO Hk
  unfold runs
  iapply (wp_load_lnd x w c (k := 1) (fun _ _ => rfl) rfl rfl) $$ Hl1
  iintro Hl1
  iapply (wp_load_acc x w c (fun _ _ => rfl) (off16_eq c) (kslots 1 c) rfl) $$ Hk1
  iintro Hk1
  iapply (wp_store_acc x w c (fun _ _ => rfl) (off16_eq c) (kslots 1 c) rfl (fun j => (congrFun (pay23_eq _ _) j).trans (add_RV x w 1 c _ _ _))) $$ Hk1
  iintro Hk1
  iapply (sent x w K c 5 2 0 rfl rfl 7 (by decide) rfl rfl) $$ HK Hf5 HO
  iintro Hf5 Hs5 HO
  iapply (landed x w K c 5 7 (by decide) rfl rfl) $$ HK Hf5 HO
  iintro Hf5 Hl5 HO
  iapply (add x w c 5 2 0 rfl rfl rfl (fun _ _ => rfl) (fun _ _ => rfl) (off20_eq c 2) rfl pay24_eq) $$ Hk5 Hl5
  iintro Hk5 Hl5

  try unfold runs
  rw [wp_ret]; imodintro
  iapply Hk $$  Hl1 Hk1 Hs5 Hk5 Hl5 Hf5 HO

set_option maxHeartbeats 2000000 in
/-- The third group's fourth; the first group's source is back. -/
theorem part13 (v122 v315 : BitVec 32) (Q : BitVec 32 → sProp 𝕄) :
    known x w K ⊢ iprop(flying 6 c -∗ acc x w 2 0 c (kslots 6 c) -∗ flying 0 c -∗ owing (F := F) 7 c
      -∗ (∀ c1 : BitVec 32, acc x w 2 0 c (sslots 6 c) -∗ acc x w 2 1 c (kslots 6 c) -∗ lnd x w 6 c -∗ fin 6 c -∗ half 0 c -∗ acc x w 0 0 c (sslots 0 c) -∗ owing (F := F) 7 c -∗ Q c1)
      -∗ runs c (atBufs (k0_part13 (F := F)) c v122 v315) Q) := by
  unfold atBufs
  rw [k0_part13_eq_skeleton]
  unfold k0_part13_skel
  simp only [Prog.lift, Prog.bind_op, Prog.bind_ret, Prog.pure_eq_ret]
  iintro #HK Hf6 Hk6 Hf0 HO Hk
  iapply (sent x w K c 6 2 0 rfl rfl 7 (by decide) rfl rfl) $$ HK Hf6 HO
  iintro Hf6 Hs6 HO
  iapply (landed x w K c 6 7 (by decide) rfl rfl) $$ HK Hf6 HO
  iintro Hf6 Hl6 HO
  iapply (add x w c 6 2 0 rfl rfl rfl (fun _ _ => rfl) (fun _ _ => rfl) (off20_eq c 3) rfl pay25_eq) $$ Hk6 Hl6
  iintro Hk6 Hl6
  iapply (sent x w K c 0 0 0 rfl rfl 7 (by decide) rfl rfl) $$ HK Hf0 HO
  iintro Hf0 Hs0 HO

  try unfold runs
  rw [wp_ret]; imodintro
  iapply Hk $$ %_ Hs6 Hk6 Hl6 Hf6 Hf0 Hs0 HO

set_option maxHeartbeats 2000000 in
/-- The first group's first sum, and the copy of half of it. -/
theorem part14 (v2 v3 v5 v42 c1 : BitVec 32) (Q : BitVec 32 → sProp 𝕄) :
    known x w K ⊢ iprop(half 0 c -∗ acc x w 0 0 c (kslots 0 c) -∗ idle 7 c -∗ land (F := F) 7 (peer 7 c) -∗ owing (F := F) 7 c
      -∗ (∀ v404 : BitVec 32, lnd x w 0 c -∗ fin 0 c -∗ acc x w 0 1 c (kslots 7 c) -∗ flying 7 c -∗ owing (F := F) 8 c -∗ Q v404)
      -∗ runs c (atBufs (k0_part14 (F := F)) c v2 v3 v5 v42 c1) Q) := by
  unfold atBufs
  rw [k0_part14_eq_skeleton]
  unfold k0_part14_skel
  simp only [Prog.lift, Prog.bind_op, Prog.bind_ret, Prog.pure_eq_ret]
  iintro #HK Hf0 Hk0 Hi7 Hd7 HO Hk
  iapply (landed x w K c 0 7 (by decide) rfl rfl) $$ HK Hf0 HO
  iintro Hf0 Hl0 HO
  iapply (add x w c 0 0 0 rfl rfl rfl (fun _ _ => rfl) (fun _ _ => rfl) (off14_eq c) rfl pay26_eq) $$ Hk0 Hl0
  iintro Hk0 Hl0
  icases (acc_split x w (slots_7 c).1 (slots_7 c).2) $$ Hk0 with ⟨Hs7, Hk7⟩
  iapply (copy x w K c 7 0 1 rfl rfl (fun _ _ => rfl) (fun _ _ => rfl) (dev11_eq c) (off21_eq c) rfl rfl rfl rfl rfl 7 rfl) $$ HK Hi7 Hs7 Hd7 HO
  iintro Hf7 HO

  try unfold runs
  rw [wp_ret]; imodintro
  iapply Hk $$ %_ Hl0 Hf0 Hk7 Hf7 HO

set_option maxHeartbeats 2000000 in
/-- The third group's two copies of its second exchange. -/
theorem part15 (v2 : BitVec 32) (Q : (Σ' (v420 : BitVec 32) (v422 : BitVec 32) (v423 : BitVec 32), BitVec 32) → sProp 𝕄) :
    known x w K ⊢ iprop(idle 8 c -∗ acc x w 2 1 c (sslots 8 c) -∗ land (F := F) 8 (peer 8 c) -∗ idle 9 c -∗ acc x w 2 1 c (sslots 9 c) -∗ land (F := F) 9 (peer 9 c) -∗ owing (F := F) 8 c
      -∗ (∀ v420 : BitVec 32, ∀ v422 : BitVec 32, ∀ v423 : BitVec 32, ∀ v424 : BitVec 32, flying 8 c -∗ flying 9 c -∗ owing (F := F) 10 c -∗ Q ⟨v420, v422, v423, v424⟩)
      -∗ runs c (atBufs (k0_part15 (F := F)) c v2) Q) := by
  unfold atBufs
  rw [k0_part15_eq_skeleton]
  unfold k0_part15_skel
  simp only [Prog.lift, Prog.bind_op, Prog.bind_ret, Prog.pure_eq_ret]
  iintro #HK Hi8 Hs8 Hd8 Hi9 Hs9 Hd9 HO Hk
  iapply (copy x w K c 8 2 1 rfl rfl (fun _ _ => rfl) (fun _ _ => rfl) (dev12_eq c) (off22_eq c) rfl rfl rfl rfl rfl 8 rfl) $$ HK Hi8 Hs8 Hd8 HO
  iintro Hf8 HO
  iapply (copy x w K c 9 2 1 rfl rfl (fun _ _ => rfl) (fun _ _ => rfl) (dev13_eq c) (off23_eq c) rfl rfl rfl rfl rfl 9 rfl) $$ HK Hi9 Hs9 Hd9 HO
  iintro Hf9 HO

  try unfold runs
  rw [wp_ret]; imodintro
  iapply Hk $$ %_ %_ %_ %_ Hf8 Hf9 HO

set_option maxHeartbeats 2000000 in
/-- The arrival and the sum of the second group's other half. -/
theorem part16 (v2 v5 v89 : BitVec 32) (Q : (Σ' (v465 : BitVec 32) (v466 : BitVec 32), BitVec 32) → sProp 𝕄) :
    known x w K ⊢ iprop(flying 2 c -∗ acc x w 1 0 c (kslots 2 c) -∗ owing (F := F) 10 c
      -∗ (∀ v465 : BitVec 32, ∀ v466 : BitVec 32, ∀ c1 : BitVec 32, acc x w 1 0 c (sslots 2 c) -∗ acc x w 1 1 c (kslots 2 c) -∗ lnd x w 2 c -∗ fin 2 c -∗ owing (F := F) 10 c -∗ Q ⟨v465, v466, c1⟩)
      -∗ runs c (atBufs (k0_part16 (F := F)) c v2 v5 v89) Q) := by
  unfold atBufs
  rw [k0_part16_eq_skeleton]
  unfold k0_part16_skel
  simp only [Prog.lift, Prog.bind_op, Prog.bind_ret, Prog.pure_eq_ret]
  iintro #HK Hf2 Hk2 HO Hk
  iapply (sent x w K c 2 1 0 rfl rfl 10 (by decide) rfl rfl) $$ HK Hf2 HO
  iintro Hf2 Hs2 HO
  iapply (landed x w K c 2 10 (by decide) rfl rfl) $$ HK Hf2 HO
  iintro Hf2 Hl2 HO
  iapply (add x w c 2 1 0 rfl rfl rfl (fun _ _ => rfl) (fun _ _ => rfl) (off18_eq c) rfl pay27_eq) $$ Hk2 Hl2
  iintro Hk2 Hl2

  try unfold runs
  rw [wp_ret]; imodintro
  iapply Hk $$ %_ %_ %_ Hs2 Hk2 Hl2 Hf2 HO

set_option maxHeartbeats 2000000 in
/-- The second group's two copies of its second exchange; the first group's source is back. -/
theorem part17 (v2 v404 v466 c1 : BitVec 32) (Q : BitVec 32 → sProp 𝕄) :
    known x w K ⊢ iprop(idle 10 c -∗ acc x w 1 1 c (sslots 10 c) -∗ land (F := F) 10 (peer 10 c) -∗ idle 11 c -∗ acc x w 1 1 c (sslots 11 c) -∗ land (F := F) 11 (peer 11 c) -∗ flying 7 c -∗ owing (F := F) 10 c
      -∗ (∀ v468 : BitVec 32, flying 10 c -∗ flying 11 c -∗ half 7 c -∗ acc x w 0 1 c (sslots 7 c) -∗ owing (F := F) 12 c -∗ Q v468)
      -∗ runs c (atBufs (k0_part17 (F := F)) c v2 v404 v466 c1) Q) := by
  unfold atBufs
  rw [k0_part17_eq_skeleton]
  unfold k0_part17_skel
  simp only [Prog.lift, Prog.bind_op, Prog.bind_ret, Prog.pure_eq_ret]
  iintro #HK Hi10 Hs10 Hd10 Hi11 Hs11 Hd11 Hf7 HO Hk
  iapply (copy x w K c 10 1 1 rfl rfl (fun _ _ => rfl) (fun _ _ => rfl) (dev14_eq c) (off24_eq c) rfl rfl rfl rfl rfl 10 rfl) $$ HK Hi10 Hs10 Hd10 HO
  iintro Hf10 HO
  iapply (copy x w K c 11 1 1 rfl rfl (fun _ _ => rfl) (fun _ _ => rfl) (dev15_eq c) (off25_eq c) rfl rfl rfl rfl rfl 11 rfl) $$ HK Hi11 Hs11 Hd11 HO
  iintro Hf11 HO
  iapply (sent x w K c 7 0 1 rfl rfl 12 (by decide) rfl rfl) $$ HK Hf7 HO
  iintro Hf7 Hs7 HO

  try unfold runs
  rw [wp_ret]; imodintro
  iapply Hk $$ %_ Hf10 Hf11 Hf7 Hs7 HO

set_option maxHeartbeats 2000000 in
/-- The first group's second sum, and the copy of half of it. -/
theorem part18 (v2 v3 v5 : BitVec 32) (Q : BitVec 32 → sProp 𝕄) :
    known x w K ⊢ iprop(half 7 c -∗ acc x w 0 1 c (kslots 7 c) -∗ idle 12 c -∗ land (F := F) 12 (peer 12 c) -∗ owing (F := F) 12 c
      -∗ (∀ v507 : BitVec 32, lnd x w 7 c -∗ fin 7 c -∗ acc x w 0 2 c (kslots 12 c) -∗ flying 12 c -∗ owing (F := F) 13 c -∗ Q v507)
      -∗ runs c (atBufs (k0_part18 (F := F)) c v2 v3 v5) Q) := by
  unfold atBufs
  rw [k0_part18_eq_skeleton]
  unfold k0_part18_skel
  simp only [Prog.lift, Prog.bind_op, Prog.bind_ret, Prog.pure_eq_ret]
  iintro #HK Hf7 Hk7 Hi12 Hd12 HO Hk
  iapply (landed x w K c 7 12 (by decide) rfl rfl) $$ HK Hf7 HO
  iintro Hf7 Hl7 HO
  iapply (add x w c 7 0 1 rfl rfl rfl (fun _ _ => rfl) (fun _ _ => rfl) (off26_eq c) rfl pay28_eq) $$ Hk7 Hl7
  iintro Hk7 Hl7
  icases (acc_split x w (slots_12 c).1 (slots_12 c).2) $$ Hk7 with ⟨Hs12, Hk12⟩
  iapply (copy x w K c 12 0 2 rfl rfl (fun _ _ => rfl) (fun _ _ => rfl) (dev16_eq c) (off27_eq0 c) rfl rfl rfl rfl rfl 12 rfl) $$ HK Hi12 Hs12 Hd12 HO
  iintro Hf12 HO

  try unfold runs
  rw [wp_ret]; imodintro
  iapply Hk $$ %_ Hl7 Hf7 Hk12 Hf12 HO

set_option maxHeartbeats 2000000 in
/-- The third group's second sum, of the first block; the second's source is back. -/
theorem part19 (v420 v423 v424 : BitVec 32) (Q : PUnit → sProp 𝕄) :
    known x w K ⊢ iprop(flying 8 c -∗ acc x w 2 1 c (kslots 8 c) -∗ flying 9 c -∗ owing (F := F) 13 c
      -∗ (acc x w 2 1 c (sslots 8 c) -∗ acc x w 2 2 c (kslots 8 c) -∗ lnd x w 8 c -∗ fin 8 c -∗ half 9 c -∗ acc x w 2 1 c (sslots 9 c) -∗ owing (F := F) 13 c -∗ Q ⟨⟩)
      -∗ runs c (atBufs (k0_part19 (F := F)) c v420 v423 v424) Q) := by
  unfold atBufs
  rw [k0_part19_eq_skeleton]
  unfold k0_part19_skel
  simp only [Prog.lift, Prog.bind_op, Prog.bind_ret, Prog.pure_eq_ret]
  iintro #HK Hf8 Hk8 Hf9 HO Hk
  iapply (sent x w K c 8 2 1 rfl rfl 13 (by decide) rfl rfl) $$ HK Hf8 HO
  iintro Hf8 Hs8 HO
  iapply (landed x w K c 8 13 (by decide) rfl rfl) $$ HK Hf8 HO
  iintro Hf8 Hl8 HO
  iapply (add x w c 8 2 1 rfl rfl rfl (fun _ _ => rfl) (fun _ _ => rfl) (off28_eq c) rfl pay29_eq) $$ Hk8 Hl8
  iintro Hk8 Hl8
  iapply (sent x w K c 9 2 1 rfl rfl 13 (by decide) rfl rfl) $$ HK Hf9 HO
  iintro Hf9 Hs9 HO

  try unfold runs
  rw [wp_ret]; imodintro
  iapply Hk $$  Hs8 Hk8 Hl8 Hf8 Hf9 Hs9 HO

set_option maxHeartbeats 2000000 in
/-- Of the second block; the copy of one of the two; the second group's first source is back. -/
theorem part20 (v2 v422 v466 : BitVec 32) (Q : BitVec 32 → sProp 𝕄) :
    known x w K ⊢ iprop(half 9 c -∗ acc x w 2 1 c (kslots 9 c) -∗ acc x w 2 2 c (kslots 8 c) -∗ idle 13 c -∗ land (F := F) 13 (peer 13 c) -∗ flying 10 c -∗ owing (F := F) 13 c
      -∗ (∀ v553 : BitVec 32, lnd x w 9 c -∗ fin 9 c -∗ acc x w 2 2 c (kslots 13 c) -∗ flying 13 c -∗ half 10 c -∗ acc x w 1 1 c (sslots 10 c) -∗ owing (F := F) 14 c -∗ Q v553)
      -∗ runs c (atBufs (k0_part20 (F := F)) c v2 v422 v466) Q) := by
  unfold atBufs
  rw [k0_part20_eq_skeleton]
  unfold k0_part20_skel
  simp only [Prog.lift, Prog.bind_op, Prog.bind_ret, Prog.pure_eq_ret]
  iintro #HK Hf9 Hk9 Hk8 Hi13 Hd13 Hf10 HO Hk
  iapply (landed x w K c 9 13 (by decide) rfl rfl) $$ HK Hf9 HO
  iintro Hf9 Hl9 HO
  iapply (add x w c 9 2 1 rfl rfl rfl (fun _ _ => rfl) (fun _ _ => rfl) (off29_eq c) rfl pay30_eq) $$ Hk9 Hl9
  iintro Hk9 Hl9
  ihave Hj := (acc_join x w (g := 2) (t := 2) (c := c) (X := kslots 8 c) (Y := kslots 9 c) rfl (slots_13 c).2.1) $$ [Hk8 Hk9]
  · isplitl [Hk8] <;> iassumption
  icases (acc_split x w (slots_13 c).1 (slots_13 c).2.2) $$ Hj with ⟨Hs13, Hk13⟩
  iapply (copy x w K c 13 2 2 rfl rfl (fun _ _ => rfl) (fun _ _ => rfl) (dev17_eq c) (off30_eq c) rfl rfl rfl rfl rfl 13 rfl) $$ HK Hi13 Hs13 Hd13 HO
  iintro Hf13 HO
  iapply (sent x w K c 10 1 1 rfl rfl 14 (by decide) rfl rfl) $$ HK Hf10 HO
  iintro Hf10 Hs10 HO

  try unfold runs
  rw [wp_ret]; imodintro
  iapply Hk $$ %_ Hl9 Hf9 Hk13 Hf13 Hf10 Hs10 HO

set_option maxHeartbeats 2000000 in
/-- The second group's second sum, of the first block; the arrival of the second. -/
theorem part21 (v465 v468 : BitVec 32) (Q : PUnit → sProp 𝕄) :
    known x w K ⊢ iprop(half 10 c -∗ acc x w 1 1 c (kslots 10 c) -∗ flying 11 c -∗ owing (F := F) 14 c
      -∗ (lnd x w 10 c -∗ fin 10 c -∗ acc x w 1 2 c (kslots 10 c) -∗ acc x w 1 1 c (sslots 11 c) -∗ lnd x w 11 c -∗ fin 11 c -∗ owing (F := F) 14 c -∗ Q ⟨⟩)
      -∗ runs c (atBufs (k0_part21 (F := F)) c v465 v468) Q) := by
  unfold atBufs
  rw [k0_part21_eq_skeleton]
  unfold k0_part21_skel
  simp only [Prog.lift, Prog.bind_op, Prog.bind_ret, Prog.pure_eq_ret]
  iintro #HK Hf10 Hk10 Hf11 HO Hk
  iapply (landed x w K c 10 14 (by decide) rfl rfl) $$ HK Hf10 HO
  iintro Hf10 Hl10 HO
  iapply (add x w c 10 1 1 rfl rfl rfl (fun _ _ => rfl) (fun _ _ => rfl) (off31_eq c) rfl pay31_eq) $$ Hk10 Hl10
  iintro Hk10 Hl10
  iapply (sent x w K c 11 1 1 rfl rfl 14 (by decide) rfl rfl) $$ HK Hf11 HO
  iintro Hf11 Hs11 HO
  iapply (landed x w K c 11 14 (by decide) rfl rfl) $$ HK Hf11 HO
  iintro Hf11 Hl11 HO

  try unfold runs
  rw [wp_ret]; imodintro
  iapply Hk $$  Hl10 Hf10 Hk10 Hs11 Hl11 Hf11 HO

set_option maxHeartbeats 2000000 in
/-- Its sum, the copy of one of the two, and the scale; the third group's last source is back. -/
theorem part22 (a b : F .f32) (v2 v465 v553 : BitVec 32) (Q : (Σ' (v601 : BitVec 32) (v612 : F .f32) (v617 : BitVec 32), BitVec 32) → sProp 𝕄) :
    known x w K ⊢ iprop(lnd x w 11 c -∗ acc x w 1 1 c (kslots 11 c) -∗ acc x w 1 2 c (kslots 10 c) -∗ idle 14 c -∗ land (F := F) 14 (peer 14 c) -∗ sin2 (F := F) c a -∗ sin3 (F := F) c b -∗ flying 13 c -∗ owing (F := F) 14 c
      -∗ (∀ v601 : BitVec 32, ∀ v617 : BitVec 32, ∀ c0 : BitVec 32, lnd x w 11 c -∗ acc x w 1 2 c (kslots 14 c) -∗ flying 14 c -∗ sin2 (F := F) c a -∗ sin3 (F := F) c b -∗ half 13 c -∗ acc x w 2 2 c (sslots 13 c) -∗ owing (F := F) 15 c -∗ Q ⟨v601, k0_pay33 a b, v617, c0⟩)
      -∗ runs c (atBufs (k0_part22 (F := F)) c v2 v465 v553) Q) := by
  unfold atBufs
  rw [k0_part22_eq_skeleton]
  unfold k0_part22_skel
  simp only [Prog.lift, Prog.bind_op, Prog.bind_ret, Prog.pure_eq_ret]
  iintro #HK Hl11 Hk11 Hk10 Hi14 Hd14 Ha Hb Hf13 HO Hk
  iapply (add x w c 11 1 1 rfl rfl rfl (fun _ _ => rfl) (fun _ _ => rfl) (off32_eq c) rfl pay32_eq) $$ Hk11 Hl11
  iintro Hk11 Hl11
  ihave Hj := (acc_join x w (g := 1) (t := 2) (c := c) (X := kslots 10 c) (Y := kslots 11 c) rfl (slots_14 c).2.1) $$ [Hk10 Hk11]
  · isplitl [Hk10] <;> iassumption
  icases (acc_split x w (slots_14 c).1 (slots_14 c).2.2) $$ Hj with ⟨Hs14, Hk14⟩
  iapply (copy x w K c 14 1 2 rfl rfl (fun _ _ => rfl) (fun _ _ => rfl) (dev18_eq c) (off27_eq1 c) rfl rfl rfl rfl rfl 14 rfl) $$ HK Hi14 Hs14 Hd14 HO
  iintro Hf14 HO
  unfold sin2 sin3
  try unfold runs
  rw [wp_bind]
  iapply (wp_smemLoadElt 𝒱₀ (c : Thread nD τ) none Set.univ (m := Memref.whole cc0_stg2_0) (r := Rect.unit (s := S1) ![0] S1.size inb_S1_S1_0) (Finset.subset_univ _)) $$ Ha
  iintro Ha
  rw [wp_ret]; imodintro
  rw [wp_bind]
  iapply (wp_smemLoadElt 𝒱₀ (c : Thread nD τ) none Set.univ (m := Memref.whole cc0_stg3_0) (r := Rect.unit (s := S1) ![0] S1.size inb_S1_S1_0) (Finset.subset_univ _)) $$ Hb
  iintro Hb
  rw [word2, word3]
  rw [wp_ret]; imodintro
  iapply (sent x w K c 13 2 2 rfl rfl 15 (by decide) rfl rfl) $$ HK Hf13 HO
  iintro Hf13 Hs13 HO

  try unfold runs
  rw [wp_ret]; imodintro
  iapply Hk $$ %_ %_ %_ Hl11 Hk14 Hf14 Ha Hb Hf13 Hs13 HO

set_option maxHeartbeats 2000000 in
/-- The third group's last sum, scaled into the output; the arrival of the first group's last. -/
theorem part23 (v : F .f32) (Y : Finset ℕ) (v2 v507 v617 c0 : BitVec 32) (Q : PUnit → sProp 𝕄) :
    known x w K ⊢ iprop(half 13 c -∗ acc x w 2 2 c (kslots 13 c) -∗ out x w v c Y -∗ flying 12 c -∗ owing (F := F) 15 c
      -∗ (lnd x w 13 c -∗ fin 13 c -∗ acc x w 2 2 c (kslots 13 c) -∗ out x w v c (Y ∪ Finset.Ico 1280 2048) -∗ acc x w 0 2 c (sslots 12 c) -∗ lnd x w 12 c -∗ fin 12 c -∗ owing (F := F) 15 c -∗ Q ⟨⟩)
      -∗ runs c (atBufs (k0_part23 (F := F)) c v2 v507 v v617 c0) Q) := by
  unfold atBufs
  rw [k0_part23_eq_skeleton]
  unfold k0_part23_skel
  simp only [Prog.lift, Prog.bind_op, Prog.bind_ret, Prog.pure_eq_ret]
  iintro #HK Hf13 Hk13 Hout Hf12 HO Hk
  iapply (landed x w K c 13 15 (by decide) rfl rfl) $$ HK Hf13 HO
  iintro Hf13 Hl13 HO
  unfold runs
  iapply (wp_load_acc x w c (o := ko 13 c) (fun _ _ => rfl) (off33_eq c) (kslots 13 c) rfl) $$ Hk13
  iintro Hk13
  iapply (wp_load_lnd x w c (k := 13) (fun _ _ => rfl) rfl rfl) $$ Hl13
  iintro Hl13
  iapply (wp_load_out x w c) $$ Hout
  iintro %b Hout
  iapply (wp_store_out x w c (a := 1280) rfl (out34 x w c v)) $$ Hout
  iintro Hout
  iapply (sent x w K c 12 0 2 rfl rfl 15 (by decide) rfl rfl) $$ HK Hf12 HO
  iintro Hf12 Hs12 HO
  iapply (landed x w K c 12 15 (by decide) rfl rfl) $$ HK Hf12 HO
  iintro Hf12 Hl12 HO

  try unfold runs
  rw [wp_ret]; imodintro
  iapply Hk $$  Hl13 Hf13 Hk13 Hout Hs12 Hl12 Hf12 HO

set_option maxHeartbeats 2000000 in
/-- The first group's; the arrival of the second group's last, and its scaled sum. -/
theorem part24 (v : F .f32) (Y : Finset ℕ) (v2 v601 : BitVec 32) (Q : FVec F S512x640 .f32 → sProp 𝕄) :
    known x w K ⊢ iprop(acc x w 0 2 c (kslots 12 c) -∗ lnd x w 12 c -∗ out x w v c Y -∗ flying 14 c -∗ acc x w 1 2 c (kslots 14 c) -∗ owing (F := F) 15 c
      -∗ (acc x w 0 2 c (kslots 12 c) -∗ lnd x w 12 c -∗ out x w v c (Y ∪ Finset.Ico 0 640) -∗ acc x w 1 2 c (sslots 14 c) -∗ lnd x w 14 c -∗ fin 14 c -∗ acc x w 1 2 c (kslots 14 c) -∗ owing (F := F) 15 c -∗ Q (k0_pay36 v (sbv x w c 1 2 (ko 14 c) (n := cnt 14) (R := 512) (W := 640)) (rvv x w c 14 (n := cnt 14) (R := 512) (W := 640))))
      -∗ runs c (atBufs (k0_part24 (F := F)) c v2 v601 v) Q) := by
  unfold atBufs
  rw [k0_part24_eq_skeleton]
  unfold k0_part24_skel
  simp only [Prog.lift, Prog.bind_op, Prog.bind_ret, Prog.pure_eq_ret]
  iintro #HK Hk12 Hl12 Hout Hf14 Hk14 HO Hk
  unfold runs
  iapply (wp_load_acc x w c (o := ko 12 c) (fun _ _ => rfl) (off34_eq0 c) (kslots 12 c) rfl) $$ Hk12
  iintro Hk12
  iapply (wp_load_lnd x w c (k := 12) (fun _ _ => rfl) rfl rfl) $$ Hl12
  iintro Hl12
  iapply (wp_load_out x w c) $$ Hout
  iintro %b Hout
  iapply (wp_store_out x w c (a := 0) rfl (out35 x w c v)) $$ Hout
  iintro Hout
  iapply (sent x w K c 14 1 2 rfl rfl 15 (by decide) rfl rfl) $$ HK Hf14 HO
  iintro Hf14 Hs14 HO
  iapply (landed x w K c 14 15 (by decide) rfl rfl) $$ HK Hf14 HO
  iintro Hf14 Hl14 HO
  unfold runs
  iapply (wp_load_acc x w c (o := ko 14 c) (fun _ _ => rfl) (off34_eq1 c) (kslots 14 c) rfl) $$ Hk14
  iintro Hk14
  iapply (wp_load_lnd x w c (k := 14) (fun _ _ => rfl) rfl rfl) $$ Hl14
  iintro Hl14
  try unfold runs
  rw [wp_ret]; imodintro
  iapply Hk $$  Hk12 Hl12 Hout Hs14 Hl14 Hf14 Hk14 HO

end Cert.KProof

end
-- ==== Proof.Bar.lean ====
/-
# The first part of the kernel body: the weight's columns, and the entry barrier

Each device signals its three partners and waits for three units on its own barrier cell; the signals carry the landing
slots, and the wait brings those of the partners.
-/
module

public import proofs.«01_k».proof.Proof.Parts

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)
variable (K : Dev nD × Role → ℕ) (c : Dev nD)

/-- A partner's partner in the copy's direction is the device itself. -/
theorem peer_back {k : Fin 15} {d : Fin 3} (hd : dir k = d) : peer k (e d c) = c := by subst hd; exact e_e _ _

/-- What a device hands over with its signals: its own landing slots. -/
theorem barPay_own0 : barPay (F := F) 0 (e 0 c) = iprop(land (F := F) 3 c ∗ land (F := F) 4 c ∗ land (F := F) 5 c ∗ land (F := F) 6 c
      ∗ land (F := F) 10 c ∗ land (F := F) 11 c ∗ land (F := F) 12 c) := by
  unfold barPay
  rw [peer_back c (k := 3) (d := 0) rfl, peer_back c (k := 4) (d := 0) rfl, peer_back c (k := 5) (d := 0) rfl, peer_back c (k := 6) (d := 0) rfl, peer_back c (k := 10) (d := 0) rfl,
    peer_back c (k := 11) (d := 0) rfl, peer_back c (k := 12) (d := 0) rfl]
/-- The signal in direction 1 hands the partner this device's landing slots of the copies that come that way. -/
theorem barPay_own1 : barPay (F := F) 1 (e 1 c) = iprop(land (F := F) 1 c ∗ land (F := F) 2 c ∗ land (F := F) 7 c ∗ land (F := F) 13 c) := by
  unfold barPay
  rw [peer_back c (k := 1) (d := 1) rfl, peer_back c (k := 2) (d := 1) rfl, peer_back c (k := 7) (d := 1) rfl, peer_back c (k := 13) (d := 1) rfl]
/-- The signal in direction 2, likewise. -/
theorem barPay_own2 : barPay (F := F) 2 (e 2 c) = iprop(land (F := F) 0 c ∗ land (F := F) 8 c ∗ land (F := F) 9 c ∗ land (F := F) 14 c) := by
  unfold barPay
  rw [peer_back c (k := 0) (d := 2) rfl, peer_back c (k := 8) (d := 2) rfl, peer_back c (k := 9) (d := 2) rfl, peer_back c (k := 14) (d := 2) rfl]

/-- What device `c` holds for the barrier before it starts. -/
def gate : sProp 𝕄 :=
  iprop((dutyTok ER (barCell (e 0 c)) 0 (0 : Fin 3) ∗ dutyTok ER (barCell (e 1 c)) 0 (1 : Fin 3) ∗ dutyTok ER (barCell (e 2 c)) 0 (2 : Fin 3))
    ∗ atPos ER (barCell c) 0 ∅ 0 ∗ cred (tallyAt (barCell c) () 3))

/-- The signal in direction `d`: it pays one unit the device owes and hands over `barPay d`. -/
theorem signal (d : Fin 3) {p : Dev nD} (hp : p = e d c) {n : ℤ} (hn : n = 1) (O O' : CellTallies nD τ sig Unit) (hO : O' = O + tallyAt (barCell (e d c)) () 1)
    {Ws : Waits sig Unit} {α : Type} {Q : α → sProp 𝕄} {kt : PUnit → Prog (TpuEff nD τ sig (Elt F) Λ₀ .tc) α} :
    known x w K ⊢ iprop(dutyTok ER (barCell (e d c)) 0 d -∗ barPay (F := F) d (e d c) -∗ owes (c : Thread nD τ) O' Ws
      -∗ (owes (c : Thread nD τ) O Ws -∗ runs c (kt ⟨⟩) Q)
      -∗ runs c (.op (.semSignal (p, .tc) barS n) kt) Q) := by
  subst hp hn hO
  unfold runs
  iintro #HK Ht Hp HO Hk
  iapply (Rounds.wp_signal 𝒱₀ ER (sch x w) (c : Thread nD τ) none (dst := (e d c : Thread nD τ)) (κ := K (e d c, none))
      (d := d) (by rw [duties_bar]; exact Finset.mem_univ _) ((amount_bar x w (e d c) d).trans (by decide)) () O rfl)
    $$ [HO Ht Hp]
  · isplitr; · iapply (known_inv x w K (e d c, none) rfl); iexact HK
    isplitl [HO]; · iexact HO
    isplitl [Ht]; · iexact Ht
    isplitl [Hp]; · rw [payload_bar]; iexact Hp
    iapply (known_reached x w K (e d c, none) rfl); iexact HK
  iintro HO
  iapply Hk $$ HO

set_option maxHeartbeats 2000000 in
/-- The first part: it leaves the device with every landing slot it will write. -/
theorem part1 (Q : (Σ' (d0 : Dev nD) (v2 : BitVec 32) (v3 : BitVec 32) (v5 : BitVec 32) (v8 : BitVec 32) (v10 : IVec S512x640 8) (v12 : IVec S512x640 8) (v14 : IVec S512x768 8) (v25 : BitVec 32), BitVec 32) → sProp 𝕄) :
    known x w K ⊢ iprop(win w c -∗ gate c -∗ barPay (F := F) 0 (e 0 c) -∗ barPay (F := F) 1 (e 1 c) -∗ barPay (F := F) 2 (e 2 c)
      -∗ (∃ Ws : Waits sig Unit, owes (c : Thread nD τ) (O₀ c) Ws)
      -∗ (∀ v2 : BitVec 32, ∀ v3 : BitVec 32, ∀ v5 : BitVec 32, ∀ v8 : BitVec 32, ∀ v25 : BitVec 32, ∀ c4 : BitVec 32,
          win w c -∗ barPay (F := F) 0 c -∗ barPay (F := F) 1 c -∗ barPay (F := F) 2 c -∗ semVal (barCell c) 0 -∗ owing (F := F) 0 c
          -∗ Q ⟨c, v2, v3, v5, v8, w0 w c, w1 w c, w2 w c, v25, c4⟩)
      -∗ runs c (atBufs (k0_part1 (F := F))) Q) := by
  unfold atBufs
  rw [k0_part1_eq_skeleton]
  unfold k0_part1_skel gate
  simp only [semSignalWord, semWaitWord, Prog.lift, Prog.bind_op, Prog.bind_ret, Prog.pure_eq_ret]
  iintro #HK Hw ⟨⟨Ht0, Ht1, Ht2⟩, Hat, Hc⟩ Hp0 Hp1 Hp2 ⟨%Ws, HO⟩ Hk
  unfold runs
  rw [wp_deviceId]
  iapply (wp_load_cols w c (a := col 0) rfl) $$ Hw
  iintro Hw
  iapply (wp_load_cols w c (a := col 1) rfl) $$ Hw
  iintro Hw
  iapply (wp_load_cols w c (a := col 2) rfl) $$ Hw
  iintro Hw
  iapply (signal x w K c 0 (dev1_eq c) (by decide) (O₁ c) (O₀ c) rfl) $$ HK Ht0 Hp0 HO
  iintro HO
  iapply (signal x w K c 1 (dev2_eq c) (by decide) (O₂ c) (O₁ c) rfl) $$ HK Ht1 Hp1 HO
  iintro HO
  iapply (signal x w K c 2 (dev3_eq c) (by decide) (owedFrom 0 c) (O₂ c) rfl) $$ HK Ht2 Hp2 HO
  iintro HO
  unfold runs
  iapply (Rounds.wp_wait_rest_token 𝒱₀ ER (sch x w) (c : Thread nD τ) none (κ := K (c, none))
      (wpE_semWait_eq 𝒱₀ (c : Thread nD τ) none Set.univ) (Set.mem_univ _) () (O := owedFrom 0 c) (W := Ws) (R := 0) (m := 0) (T := ∅)
      (by rw [expect_bar]; decide)) $$ [Hc HO Hat]
  · isplitr; · iapply (known_inv x w K (c, none) rfl); iexact HK
    isplitl [Hc]; · iexact Hc
    isplitl [HO]; · iexact HO
    isplitr
    · iapply (mayWait_from (F := F) c (.reg barS) 0 (lv_bar c).le)
      iapply (known_levels x w K); iexact HK
    iexact Hat
  iintro ⟨HO, Hat, -, Hpay⟩
  ihave Hp := (Entails.of_eq (rest_bar x w c)) $$ Hpay
  icases Hp with ⟨H0, H1, H2⟩
  imod (Rounds.cell_close ER (sch x w) (Set.mem_univ (K (c, none))) (fun h => h) (R := 0 + 1) (duties_later x w (barCell c))) $$ [Hat] with Hz
  · isplitr; · iapply (known_inv x w K (c, none) rfl); iexact HK
    iexact Hat
  rw [wp_ret]; imodintro
  rw [pay1_eq, pay2_eq, pay3_eq]
  iapply Hk $$ %_ %_ %_ %_ %_ %_ Hw H0 H1 H2 Hz
  unfold owing
  iexists _; iexact HO

end Cert.KProof

end
-- ==== Proof.Deal.lean ====
/-
# How the accumulators and landing buffers are dealt to the copies, and put together again
-/
module

public import proofs.«01_k».proof.Proof.Bar

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)
variable (c : Dev nD)

/-- A separating conjunction over the copies, written out. -/
theorem fifteen (P : Fin 15 → sProp 𝕄) : bigSep Finset.univ P
    = iprop(P 0 ∗ P 1 ∗ P 2 ∗ P 3 ∗ P 4 ∗ P 5 ∗ P 6 ∗ P 7 ∗ P 8 ∗ P 9 ∗ P 10 ∗ P 11 ∗ P 12 ∗ P 13 ∗ P 14) := by
  rw [bigSep_univ_eq_bigSepL [0, 1, 2, 3, 4, 5, 6, 7, 8, 9, 10, 11, 12, 13, 14] (by decide) (by decide)]
  simp only [bigSepL_cons_cons, bigSepL_singleton]
  rfl

/-- The landing buffers, as the slots of each copy. -/
theorem land_split0 : rraw (F := F) 0 c (Finset.range 7) ⊢ iprop(land (F := F) 0 c ∗ land (F := F) 7 c ∗ land (F := F) 12 c) :=
  (rraw_split land_0.1 land_0.2.1).trans (sep_mono_r (rraw_split rfl land_0.2.2))
/-- The second group's landing buffer, as the slots of its copies. -/
theorem land_split1 : rraw (F := F) 1 c (Finset.range 7)
    ⊢ iprop(land (F := F) 14 c ∗ land (F := F) 1 c ∗ land (F := F) 2 c ∗ land (F := F) 10 c ∗ land (F := F) 11 c) :=
  (rraw_split land_1.1 land_1.2.1).trans (sep_mono_r (rraw4_split rfl land_1.2.2))
/-- The third group's. -/
theorem land_split2 : rraw (F := F) 2 c (Finset.range 7)
    ⊢ iprop((land (F := F) 3 c ∗ land (F := F) 4 c ∗ land (F := F) 5 c ∗ land (F := F) 6 c) ∗ land (F := F) 8 c ∗ land (F := F) 9 c ∗ land (F := F) 13 c) :=
  (rraw_split land_2.1 land_2.2.1).trans (BIClass.sep_mono (rraw4_split rfl land_2.2.2.1)
    ((rraw_split rfl land_2.2.2.2.1).trans (sep_mono_r (rraw_split rfl land_2.2.2.2.2))))

/-- What has landed in the first group's slots, as the whole landing buffer again. -/
theorem lnd_join0 : iprop(lnd x w 0 c ∗ lnd x w 7 c ∗ lnd x w 12 c) ⊢ rraw (F := F) 0 c (Finset.range 7) :=
  (BIClass.sep_mono (lnd_rraw x w 0) ((BIClass.sep_mono (lnd_rraw x w 7) (lnd_rraw x w 12)).trans (rraw_join rfl land_0.2.2))).trans (rraw_join land_0.1 land_0.2.1)
/-- The second group's. -/
theorem lnd_join1 : iprop(lnd x w 14 c ∗ lnd x w 1 c ∗ lnd x w 2 c ∗ lnd x w 10 c ∗ lnd x w 11 c) ⊢ rraw (F := F) 1 c (Finset.range 7) :=
  (BIClass.sep_mono (lnd_rraw x w 14) ((BIClass.sep_mono (lnd_rraw x w 1) (BIClass.sep_mono (lnd_rraw x w 2) (BIClass.sep_mono (lnd_rraw x w 10) (lnd_rraw x w 11)))).trans
    (rraw4_join rfl land_1.2.2))).trans (rraw_join land_1.1 land_1.2.1)
/-- The third group's. -/
theorem lnd_join2 : iprop((lnd x w 3 c ∗ lnd x w 4 c ∗ lnd x w 5 c ∗ lnd x w 6 c) ∗ lnd x w 8 c ∗ lnd x w 9 c ∗ lnd x w 13 c)
    ⊢ rraw (F := F) 2 c (Finset.range 7) :=
  (BIClass.sep_mono ((BIClass.sep_mono (lnd_rraw x w 3) (BIClass.sep_mono (lnd_rraw x w 4) (BIClass.sep_mono (lnd_rraw x w 5) (lnd_rraw x w 6)))).trans (rraw4_join rfl land_2.2.2.1))
    ((BIClass.sep_mono (lnd_rraw x w 8) ((BIClass.sep_mono (lnd_rraw x w 9) (lnd_rraw x w 13)).trans (rraw_join rfl land_2.2.2.2.2))).trans
      (rraw_join rfl land_2.2.2.2.1))).trans (rraw_join land_2.1 land_2.2.1)

/-- The accumulators, as what goes and what stays in the first exchange. -/
theorem raw_split0 : raw (F := F) 0 c (Finset.range 8) ⊢ iprop(raw (F := F) 0 c (sslots 0 c) ∗ raw (F := F) 0 c (kslots 0 c)) :=
  raw_split (slots_0 c).1 (slots_0 c).2
/-- The second group's accumulator, in its two halves. -/
theorem raw_split1 : raw (F := F) 1 c (Finset.range 8)
    ⊢ iprop((raw (F := F) 1 c (sslots 1 c) ∗ raw (F := F) 1 c (kslots 1 c)) ∗ raw (F := F) 1 c (sslots 2 c) ∗ raw (F := F) 1 c (kslots 2 c)) :=
  (raw_split (slots_12' c).1 (slots_12' c).2).trans (BIClass.sep_mono (raw_split (slots_1 c).1 (slots_1 c).2) (raw_split (slots_2 c).1 (slots_2 c).2))
/-- The third group's, block by block. -/
theorem raw_split2 : raw (F := F) 2 c (Finset.range 8)
    ⊢ iprop((raw (F := F) 2 c (sslots 3 c) ∗ raw (F := F) 2 c (sslots 4 c) ∗ raw (F := F) 2 c (sslots 5 c) ∗ raw (F := F) 2 c (sslots 6 c))
      ∗ raw (F := F) 2 c (kslots 3 c) ∗ raw (F := F) 2 c (kslots 4 c) ∗ raw (F := F) 2 c (kslots 5 c) ∗ raw (F := F) 2 c (kslots 6 c)) :=
  (raw_split (slots_3 c).1 (slots_3 c).2).trans (BIClass.sep_mono (raw4_split rfl (apart_s c)) (raw4_split rfl (apart_k c)))

/-- The pieces at the end, as whole accumulators again. -/
theorem acc_join0 : iprop(acc x w 0 0 c (sslots 0 c) ∗ acc x w 0 1 c (sslots 7 c) ∗ acc x w 0 2 c (sslots 12 c) ∗ acc x w 0 2 c (kslots 12 c))
    ⊢ raw (F := F) 0 c (Finset.range 8) :=
  (BIClass.sep_mono (acc_raw x w) ((BIClass.sep_mono (acc_raw x w) ((BIClass.sep_mono (acc_raw x w) (acc_raw x w)).trans
    (raw_join (slots_12 c).1 (slots_12 c).2))).trans (raw_join (slots_7 c).1 (slots_7 c).2))).trans (raw_join (slots_0 c).1 (slots_0 c).2)
/-- The second group's pieces at the end. -/
theorem acc_join1 : iprop((acc x w 1 0 c (sslots 1 c) ∗ acc x w 1 1 c (sslots 10 c)) ∗ (acc x w 1 0 c (sslots 2 c) ∗ acc x w 1 1 c (sslots 11 c))
      ∗ acc x w 1 2 c (sslots 14 c) ∗ acc x w 1 2 c (kslots 14 c))
    ⊢ raw (F := F) 1 c (Finset.range 8) := by
  refine (BIClass.sep_mono (BIClass.sep_mono (acc_raw x w) (acc_raw x w)) (BIClass.sep_mono (BIClass.sep_mono (acc_raw x w) (acc_raw x w))
    (((BIClass.sep_mono (acc_raw x w) (acc_raw x w)).trans (raw_join (slots_14 c).1 (slots_14 c).2.2)).trans (raw_split rfl (slots_14 c).2.1)))).trans ?_
  iintro ⟨⟨S1, S10⟩, ⟨S2, S11⟩, K10, K11⟩
  ihave K1 := (raw_join (F := F) (slots_10 c).1 (slots_10 c).2) $$ [S10 K10]
  · isplitl [S10] <;> iassumption
  ihave K2 := (raw_join (F := F) (slots_11 c).1 (slots_11 c).2) $$ [S11 K11]
  · isplitl [S11] <;> iassumption
  iapply (raw_join (F := F) (slots_12' c).1 (slots_12' c).2)
  isplitl [S1 K1]
  · iapply (raw_join (F := F) (slots_1 c).1 (slots_1 c).2); isplitl [S1] <;> iassumption
  iapply (raw_join (F := F) (slots_2 c).1 (slots_2 c).2); isplitl [S2] <;> iassumption
/-- The third group's pieces at the end. -/
theorem acc_join2 : iprop((acc x w 2 0 c (sslots 3 c) ∗ acc x w 2 0 c (sslots 4 c) ∗ acc x w 2 0 c (sslots 5 c) ∗ acc x w 2 0 c (sslots 6 c))
      ∗ (acc x w 2 1 c (sslots 8 c) ∗ acc x w 2 1 c (sslots 9 c)) ∗ acc x w 2 2 c (sslots 13 c) ∗ acc x w 2 2 c (kslots 13 c))
    ⊢ raw (F := F) 2 c (Finset.range 8) := by
  refine (BIClass.sep_mono ((BIClass.sep_mono (acc_raw x w) (BIClass.sep_mono (acc_raw x w) (BIClass.sep_mono (acc_raw x w) (acc_raw x w)))).trans (raw4_join rfl (apart_s c)))
    (BIClass.sep_mono (BIClass.sep_mono (acc_raw x w) (acc_raw x w))
    (((BIClass.sep_mono (acc_raw x w) (acc_raw x w)).trans (raw_join (slots_13 c).1 (slots_13 c).2.2)).trans (raw_split rfl (slots_13 c).2.1)))).trans ?_
  iintro ⟨S, ⟨S8, S9⟩, K8, K9⟩
  iapply (raw_join (F := F) (slots_3 c).1 (slots_3 c).2)
  isplitl [S]; · iexact S
  iapply (raw4_join (F := F) (slots_8 c).1 (slots_8 c).2)
  isplitl [S8]; · iexact S8
  isplitl [S9]; · iexact S9
  isplitl [K8] <;> iassumption

end Cert.KProof

end
-- ==== Proof.Body.lean ====
/-
# The whole kernel body on one device
-/
module

public import proofs.«01_k».proof.Proof.Deal

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)
variable (K : Dev nD × Role → ℕ) (c : Dev nD)

/-- The buffers the body works in, with whatever they hold. -/
def work : sProp 𝕄 :=
  iprop((raw (F := F) 0 c (Finset.range 8) ∗ raw (F := F) 1 c (Finset.range 8) ∗ raw (F := F) 2 c (Finset.range 8))
    ∗ rraw (F := F) 0 c (Finset.range 7) ∗ rraw (F := F) 1 c (Finset.range 7) ∗ rraw (F := F) 2 c (Finset.range 7))

set_option maxHeartbeats 8000000 in
/-- The body, from its operands and working buffers to the output. -/
theorem sound_body (a b : F .f32) (Q : PUnit → sProp 𝕄) :
    known x w K ⊢ iprop(xin x c -∗ win w c -∗ sin2 (F := F) c a -∗ sin3 (F := F) c b -∗ out x w (k0_pay33 a b) c ∅ -∗ work (F := F) c -∗ gate c
      -∗ bigSep Finset.univ (fun k : Fin 15 => idle (F := F) k c) -∗ (∃ Ws : Waits sig Unit, owes (c : Thread nD τ) (O₀ c) Ws)
      -∗ (xin x c -∗ win w c -∗ sin2 (F := F) c a -∗ sin3 (F := F) c b -∗ out x w (k0_pay33 a b) c (((∅ ∪ Finset.Ico 1280 2048) ∪ Finset.Ico 0 640) ∪ Finset.Ico 640 1280)
        -∗ work (F := F) c -∗ semVal (barCell c) 0 -∗ bigSep Finset.univ (fun k : Fin 15 => fin (F := F) k c) -∗ owing (F := F) 15 c -∗ Q ⟨⟩)
      -∗ runs c (atBufs (cc0_body (F := F))) Q) := by
  unfold atBufs runs
  rw [cc0_body_eq_skeleton]
  unfold cc0_body_skel work
  rw [fifteen, fifteen]
  iintro #HK Hx Hw H2 H3 Ho ⟨⟨R0, R1, R2⟩, Q0, Q1, Q2⟩ Hg ⟨I0, I1, I2, I3, I4, I5, I6, I7, I8, I9, I10, I11, I12, I13, I14⟩ HO Hk
  icases (raw_split0 c) $$ R0 with ⟨S0, K0⟩
  icases (raw_split1 c) $$ R1 with ⟨⟨S1, K1⟩, S2, K2⟩
  icases (raw_split2 c) $$ R2 with ⟨⟨S3, S4, S5, S6⟩, K3, K4, K5, K6⟩
  icases (land_split0 c) $$ Q0 with ⟨D0, D7, D12⟩
  icases (land_split1 c) $$ Q1 with ⟨D14, D1, D2, D10, D11⟩
  icases (land_split2 c) $$ Q2 with ⟨⟨D3, D4, D5, D6⟩, D8, D9, D13⟩
  ihave P0 := (Entails.of_eq (barPay_own0 c).symm) $$ [D3 D4 D5 D6 D10 D11 D12]
  · isplitl [D3]; · iexact D3
    isplitl [D4]; · iexact D4
    isplitl [D5]; · iexact D5
    isplitl [D6]; · iexact D6
    isplitl [D10]; · iexact D10
    isplitl [D11] <;> iassumption
  ihave P1 := (Entails.of_eq (barPay_own1 c).symm) $$ [D1 D2 D7 D13]
  · isplitl [D1]; · iexact D1
    isplitl [D2]; · iexact D2
    isplitl [D7] <;> iassumption
  ihave P2 := (Entails.of_eq (barPay_own2 c).symm) $$ [D0 D8 D9 D14]
  · isplitl [D0]; · iexact D0
    isplitl [D8]; · iexact D8
    isplitl [D9] <;> iassumption
  rw [wp_bind]
  iapply (part1 x w K c _) $$ HK Hw Hg P0 P1 P2 HO
  iintro %v2 %v3 %v5 %v8 %v25 %c4 Hw B0 B1 B2 Hbar HO
  dsimp only
  unfold barPay
  icases B0 with ⟨D3, D4, D5, D6, D10, D11, D12⟩
  icases B1 with ⟨D1, D2, D7, D13⟩
  icases B2 with ⟨D0, D8, D9, D14⟩
  rw [wp_bind]
  iapply (part2 x w K c _ _ _ _ _ _) $$ HK Hx S0 I0 D0 HO
  iintro %v42 Hx F0 HO
  dsimp only
  rw [wp_bind]
  iapply (part3 x w K c _ _ _) $$ HK Hx S1 S2
  iintro %v85 %v89 Hx S1 S2
  dsimp only
  rw [wp_bind]
  iapply (part4 x w K c _ _ _) $$ HK I1 S1 D1 I2 S2 D2 HO
  iintro %v108 %v110 %v112 %v114 %v116 %c3 %v117 F1 F2 HO
  dsimp only
  rw [wp_bind]
  iapply (part5 x w K c _ _ _ _ _ _ _) $$ HK Hx S3 S4
  iintro %v118 %v120 %v122 %v145 %v146 Hx S3 S4
  dsimp only
  rw [wp_bind]
  iapply (part6 x w K c _ _ _ _) $$ HK Hx I3 S3 D3 I4 S4 D4 S5 S6 HO
  iintro Hx F3 F4 S5 S6 HO
  rw [wp_bind]
  iapply (part7 x w K c _ _ _) $$ HK Hx K0 K1
  iintro %v221 Hx K0 K1
  dsimp only
  rw [wp_bind]
  iapply (part8 x w K c _ _ _ _ _ _) $$ HK Hx K2 K3 K4 K5
  iintro %v259 Hx K2 K3 K4 K5
  rw [wp_bind]
  iapply (part9 x w K c _ _ _ _ _) $$ HK Hx K6 F3 K3 HO
  iintro Hx K6 S3 K3 L3 E3 HO
  rw [wp_bind]
  iapply (part10 x w K c _ _ _ _) $$ HK I5 S5 D5 F4 K4 HO
  iintro %v288 F5 S4 K4 L4 E4 HO
  dsimp only
  rw [wp_bind]
  iapply (part11 x w K c _ _ _ _) $$ HK K4 I6 S6 D6 F1 K1 HO
  iintro %v315 K4 F6 S1 K1 L1 E1 HO
  dsimp only
  rw [wp_bind]
  iapply (part12 x w K c _ _ _ _) $$ HK L1 K1 F5 K5 HO
  iintro L1 K1 S5 K5 L5 E5 HO
  rw [wp_bind]
  iapply (part13 x w K c _ _ _) $$ HK F6 K6 F0 HO
  iintro %c1 S6 K6 L6 E6 F0 S0 HO
  rw [wp_bind]
  iapply (part14 x w K c _ _ _ _ _ _) $$ HK F0 K0 I7 D7 HO
  iintro %v404 L0 E0 K7 F7 HO
  ihave KF := (acc4_join x w (g := 2) (t := 1) (c := c) rfl (apart_k c)) $$ [K3 K4 K5 K6]
  · isplitl [K3]; · iexact K3
    isplitl [K4]; · iexact K4
    isplitl [K5] <;> iassumption
  icases (acc4_split x w (slots_8 c).1 (slots_8 c).2) $$ KF with ⟨S8, S9, K8, K9⟩
  rw [wp_bind]
  iapply (part15 x w K c _ _) $$ HK I8 S8 D8 I9 S9 D9 HO
  iintro %v420 %v422 %v423 %v424 F8 F9 HO
  dsimp only
  rw [wp_bind]
  iapply (part16 x w K c _ _ _ _) $$ HK F2 K2 HO
  iintro %v465 %v466 %c1' S2 K2 L2 E2 HO
  dsimp only
  icases (acc_split x w (slots_10 c).1 (slots_10 c).2) $$ K1 with ⟨S10, K10⟩
  icases (acc_split x w (slots_11 c).1 (slots_11 c).2) $$ K2 with ⟨S11, K11⟩
  rw [wp_bind]
  iapply (part17 x w K c _ _ _ _ _) $$ HK I10 S10 D10 I11 S11 D11 F7 HO
  iintro %v468 F10 F11 F7 S7 HO
  rw [wp_bind]
  iapply (part18 x w K c _ _ _ _) $$ HK F7 K7 I12 D12 HO
  iintro %v507 L7 E7 K12 F12 HO
  rw [wp_bind]
  iapply (part19 x w K c _ _ _ _) $$ HK F8 K8 F9 HO
  iintro S8 K8 L8 E8 F9 S9 HO
  rw [wp_bind]
  iapply (part20 x w K c _ _ _ _) $$ HK F9 K9 K8 I13 D13 F10 HO
  iintro %v553 L9 E9 K13 F13 F10 S10 HO
  rw [wp_bind]
  iapply (part21 x w K c _ _ _) $$ HK F10 K10 F11 HO
  iintro L10 E10 K10 S11 L11 E11 HO
  rw [wp_bind]
  iapply (part22 x w K c a b _ _ _ _) $$ HK L11 K11 K10 I14 D14 H2 H3 F13 HO
  iintro %v601 %v617 %c0 L11 K14 F14 H2 H3 F13 S13 HO
  dsimp only
  rw [wp_bind]
  iapply (part23 x w K c (k0_pay33 a b) ∅ _ _ _ _ _) $$ HK F13 K13 Ho F12 HO
  iintro L13 E13 K13 Ho S12 L12 E12 HO
  rw [wp_bind]
  iapply (part24 x w K c (k0_pay33 a b) _ _ _ _) $$ HK K12 L12 Ho F14 K14 HO
  iintro K12 L12 Ho S14 L14 E14 K14 HO
  simp only [Prog.lift, Prog.bind_op, Prog.bind_ret, Prog.pure_eq_ret]
  iapply (wp_load_out x w c) $$ Ho
  iintro %vo Ho
  iapply (wp_store_out x w c (a := 640) rfl (out36 x w c (k0_pay33 a b))) $$ Ho
  iintro Ho
  rw [wp_ret]; imodintro
  iapply Hk $$ Hx Hw H2 H3 Ho [S0 S7 S12 K12 S1 S10 S2 S11 S14 K14 S3 S4 S5 S6 S8 S9 S13 K13 L0 L1 L2 L3 L4 L5 L6 L7 L8 L9 L10 L11 L12 L13 L14] Hbar [E0 E1 E2 E3 E4 E5 E6 E7 E8 E9 E10 E11 E12 E13 E14] HO
  · isplitr [L0 L1 L2 L3 L4 L5 L6 L7 L8 L9 L10 L11 L12 L13 L14]
    · isplitl [S0 S7 S12 K12]
      · iapply (acc_join0 x w c)
        isplitl [S0]; · iexact S0
        isplitl [S7]; · iexact S7
        isplitl [S12] <;> iassumption
      isplitl [S1 S10 S2 S11 S14 K14]
      · iapply (acc_join1 x w c)
        isplitl [S1 S10]; · isplitl [S1] <;> iassumption
        isplitl [S2 S11]; · isplitl [S2] <;> iassumption
        isplitl [S14] <;> iassumption
      · iapply (acc_join2 x w c)
        isplitl [S3 S4 S5 S6]
        · isplitl [S3]; · iexact S3
          isplitl [S4]; · iexact S4
          isplitl [S5] <;> iassumption
        isplitl [S8 S9]; · isplitl [S8] <;> iassumption
        isplitl [S13] <;> iassumption
    isplitl [L0 L7 L12]
    · iapply (lnd_join0 x w c)
      isplitl [L0]; · iexact L0
      isplitl [L7] <;> iassumption
    isplitl [L14 L1 L2 L10 L11]
    · iapply (lnd_join1 x w c)
      isplitl [L14]; · iexact L14
      isplitl [L1]; · iexact L1
      isplitl [L2]; · iexact L2
      isplitl [L10] <;> iassumption
    · iapply (lnd_join2 x w c)
      isplitl [L3 L4 L5 L6]
      · isplitl [L3]; · iexact L3
        isplitl [L4]; · iexact L4
        isplitl [L5] <;> iassumption
      isplitl [L8]; · iexact L8
      isplitl [L9] <;> iassumption
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13] <;> iassumption

end Cert.KProof

end
-- ==== Proof.Ghost.lean ====
/-
# The exchange's shares at launch

One cell per device and role, each at round 0, and one token per duty.  The cells' invariants are made for all devices
at once; then every token moves to the device that pays its duty.
-/
module

public import proofs.«01_k».proof.Proof.Body
public import Idealize.ShloMosaic.Lib.Pipeline.Launch
public import Idealize.ShloMosaic.Lib.Pipeline.Kit

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (⟨2, ![4096, 512]⟩ : Shape).Idx → BitVec 8) (w : Dev nD → (⟨2, ![512, 2048]⟩ : Shape).Idx → BitVec 8)

/-! ## The roles, one by one -/

/-- A separating conjunction over the roles: the barrier's, then each copy's two sides. -/
theorem over_roles (P : Role → sProp 𝕄) : bigSep Finset.univ P
    = iprop(P none ∗ (bigSep Finset.univ fun k => P (some (false, k))) ∗ bigSep Finset.univ fun k => P (some (true, k))) := by
  rw [bigSep_univ_at P none, show Finset.univ.erase (none : Role) = Finset.univ.map Function.Embedding.some from by decide, bigSep_map, bigSep_univ_prod,
    bigSep_univ_eq_bigSepL [false, true] (by decide) (by decide), bigSepL_cons_cons, bigSepL_singleton]
  rfl

/-- A separating conjunction over the directions. -/
theorem over_dirs (P : Fin 3 → sProp 𝕄) : bigSep Finset.univ P = iprop(P 0 ∗ P 1 ∗ P 2) := by
  rw [bigSep_univ_eq_bigSepL [0, 1, 2] (by decide) (by decide), bigSepL_cons_cons, bigSepL_cons_cons, bigSepL_singleton]
  rfl

/-! ## What is minted -/

/-- The cells of all devices. -/
def allCells : Finset (GSem nD τ sig) := Finset.univ.map ⟨kcell, kcell_injective⟩

/-- The token of a cell's duty in its one round. -/
def tokOf (p : (Dev nD × Role) × Fin 3) : GSem nD τ sig × ℕ × Fin 3 := (kcell p.1, 0, p.2)

/-- Distinct duties have distinct tokens. -/
theorem tokOf_injective : Function.Injective tokOf := by
  rintro ⟨p, d⟩ ⟨p', d'⟩ h
  have h1 : p = p' := kcell_injective (congrArg Prod.fst h)
  have h2 : d = d' := congrArg (fun t : GSem nD τ sig × ℕ × Fin 3 => t.2.2) h
  rw [h1, h2]

/-- The tokens of all duties. -/
def allToks : Finset (GSem nD τ sig × ℕ × Fin 3) := Finset.univ.map ⟨tokOf, tokOf_injective⟩

/-- The tokens of device `c`'s own cells. -/
def minted (c : Dev nD) : sProp 𝕄 :=
  bigSep Finset.univ fun i : Role => bigSep Finset.univ fun d : Fin 3 => dutyTok ER (kcell (c, i)) 0 d

/-- What device `c` is dealt: its cells' round state, its positions and marks, its cells' tokens. -/
def G (c : Dev nD) : sProp 𝕄 :=
  iprop((bigSep Finset.univ fun i : Role => roundState ER (sch (F := F) x w) (kcell (c, i)) 0)
    ∗ (bigSep Finset.univ fun i : Role => iprop(atPos ER (kcell (c, i)) 0 ∅ 0 ∗ reached ER (kcell (c, i)) 0)) ∗ minted (F := F) c)

/-- A family over all cells, device by device and role by role. -/
theorem over_cells (P : GSem nD τ sig → sProp 𝕄) :
    bigSep allCells P = bigSep Finset.univ fun c : Dev nD => bigSep Finset.univ fun i : Role => P (kcell (c, i)) := by
  unfold allCells; rw [bigSep_map, bigSep_univ_prod]; rfl

/-- All tokens, device by device. -/
theorem over_toks : bigSep allToks (fun t => (dutyTok ER t.1 t.2.1 t.2.2 : sProp 𝕄)) = bigSep Finset.univ fun c : Dev nD => minted (F := F) c := by
  unfold allToks minted; rw [bigSep_map, bigSep_univ_prod, bigSep_univ_prod]; rfl

/-- The launch element of the exchange is every device's deal. -/
theorem fund_cells : BI.own (ER (initOf allCells allToks)) ⊢ (|==> bigSep Finset.univ (G (F := F) x w) : sProp 𝕄) := by
  iintro H
  imod (Rounds.fund ER (sch (F := F) x w) allCells allToks) $$ H with ⟨Hst, Hr, Hat, Htok⟩
  imodintro
  ihave Hst' := (Entails.of_eq (over_cells fun g => roundState ER (sch (F := F) x w) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-! ## The cells' counters -/

/-- The kernel's own semaphores: both sides of every copy. -/
abbrev osem (p : Bool × Fin 15) : SemLoc sig := csem (some p)

/-- The kernel's own counters at zero: one per send cell and one per receive cell. -/
theorem own_sems (c : Dev nD) : (Pipeline.ownSems0 (Ix := Unit) (Name := ℕ) (U := UU) (Lvl := ℕ) (Val := Elt F) (τ := τ) osem c : sProp 𝕄)
    = iprop((bigSep Finset.univ fun k : Fin 15 => semVal (sndCell k c) 0) ∗ bigSep Finset.univ fun k : Fin 15 => semVal (rcvCell k c) 0) := by
  unfold Pipeline.ownSems0
  rw [bigSep_univ_prod, bigSep_univ_eq_bigSepL [false, true] (by decide) (by decide), bigSepL_cons_cons, bigSepL_singleton]
  rfl

/-- The barrier's semaphore is the one that outlives the kernel. -/
theorem rest_sems (c : Dev nD) : (unscopedSems0 c : sProp 𝕄) = semVal (barCell c) 0 := by
  unfold unscopedSems0; rw [bigSep_eq_bigSepL_of_eq [SemLoc.reg barS] (by decide) (by decide)]; rfl

/-- With the barrier's counter, one per cell. -/
theorem all_sems (c : Dev nD) :
    iprop(Pipeline.ownSems0 (Ix := Unit) (Name := ℕ) (U := UU) (Lvl := ℕ) (Val := Elt F) (τ := τ) osem c ∗ unscopedSems0 c)
      ⊢ (bigSep Finset.univ fun i : Role => semVal (kcell (c, i)) 0 : sProp 𝕄) := by
  rw [own_sems, rest_sems, over_roles]
  iintro ⟨⟨HS, HV⟩, HB⟩
  isplitl [HB]; · iexact HB
  isplitl [HS]; · iexact HS
  iexact HV

/-- One device's cells get their invariants. -/
theorem alloc (c : Dev nD) :
    iprop(Pipeline.ownSems0 (Ix := Unit) (Name := ℕ) (U := UU) (Lvl := ℕ) (Val := Elt F) (τ := τ) osem c ∗ unscopedSems0 c ∗ G (F := F) x w c)
      ⊢ |={Set.univ}=> iprop((bigSep Finset.univ fun i : Role => iprop(∃ κ : ℕ, cellInv ER (sch (F := F) x w) κ (kcell (c, i))))
          ∗ (bigSep Finset.univ fun i : Role => iprop(atPos ER (kcell (c, i)) 0 ∅ 0 ∗ reached ER (kcell (c, i)) 0)) ∗ minted (F := F) c) := by
  unfold G
  iintro ⟨Hos, Hus, Hst, Hat, Htok⟩
  ihave Hv := (all_sems (F := F) c) $$ [Hos Hus]
  · isplitl [Hos] <;> iassumption
  have hinv : iprop((bigSep Finset.univ fun i : Role => semVal (kcell (c, i)) 0) ∗ bigSep Finset.univ fun i : Role => roundState ER (sch (F := F) x w) (kcell (c, i)) 0)
      ⊢ (|={Set.univ}=> bigSep Finset.univ fun i : Role => iprop(∃ κ : ℕ, cellInv ER (sch (F := F) x w) κ (kcell (c, i))) : sProp 𝕄) := by
    rw [← bigSep_sep']
    exact (bigSep_mono fun i _ => (Rounds.body_intro ER (sch (F := F) x w) (kcell (c, i))).trans inv_alloc).trans (bigSep_fupd _ _)
  imod hinv $$ [Hv Hst] with Hinv
  · isplitl [Hv] <;> iassumption
  imodintro
  isplitl [Hinv]; · iexact Hinv
  isplitl [Hat] <;> iassumption

/-! ## The tokens go to who pays -/

/-- The tokens of device `c`'s own cells' duties that are ever paid. -/
def held0 (c : Dev nD) : sProp 𝕄 :=
  iprop((bigSep Finset.univ fun d : Fin 3 => dutyTok ER (barCell c) 0 d)
    ∗ (bigSep Finset.univ fun k : Fin 15 => dutyTok ER (sndCell k c) 0 (0 : Fin 3)) ∗ bigSep Finset.univ fun k : Fin 15 => dutyTok ER (rcvCell k c) 0 (0 : Fin 3))

/-- The tokens of the duties device `c` pays. -/
def payToks (c : Dev nD) : sProp 𝕄 :=
  iprop((bigSep Finset.univ fun d : Fin 3 => dutyTok ER (barCell (e d c)) 0 d)
    ∗ (bigSep Finset.univ fun k : Fin 15 => dutyTok ER (sndCell k c) 0 (0 : Fin 3)) ∗ bigSep Finset.univ fun k : Fin 15 => dutyTok ER (rcvCell k (peer k c)) 0 (0 : Fin 3))

/-- Of the tokens made for its cells a device keeps those of the duties that are paid. -/
theorem minted_held (c : Dev nD) : minted (F := F) c ⊢ held0 (F := F) c := by
  unfold minted held0
  rw [over_roles]
  have h (i : Fin 15 → Role) : (bigSep Finset.univ fun k : Fin 15 => bigSep Finset.univ fun d : Fin 3 => dutyTok ER (kcell (c, i k)) 0 d : sProp 𝕄)
      ⊢ bigSep Finset.univ fun k : Fin 15 => dutyTok ER (kcell (c, i k)) 0 (0 : Fin 3) :=
    bigSep_mono fun k _ => bigSep_elim (Φ := fun d : Fin 3 => (dutyTok ER (kcell (c, i k)) 0 d : sProp 𝕄)) (Finset.mem_univ (0 : Fin 3))
  iintro ⟨HB, HS, HV⟩
  isplitl [HB]; · iexact HB
  isplitl [HS]
  · iapply (h fun k => some (false, k)); iexact HS
  iapply (h fun k => some (true, k)); iexact HV

/-- A family over devices and directions, or copies, re-indexed by the partner in that direction. -/
theorem across {I : Type} [Fintype I] (f : I → Dev nD → Dev nD) (hf : ∀ i c, f i (f i c) = c) (P : I → Dev nD → sProp 𝕄) :
    (bigSep Finset.univ fun c : Dev nD => bigSep Finset.univ fun i : I => P i c)
      = bigSep Finset.univ fun c : Dev nD => bigSep Finset.univ fun i : I => P i (f i c) := by
  rw [← bigSep_univ_prod (fun p : Dev nD × I => P p.2 p.1), ← bigSep_univ_prod (fun p : Dev nD × I => P p.2 (f p.2 p.1)),
    bigSep_univ_equiv (⟨fun p => (f p.2 p.1, p.2), fun p => (f p.2 p.1, p.2), fun p => Prod.ext (hf p.2 p.1) rfl, fun p => Prod.ext (hf p.2 p.1) rfl⟩ : Dev nD × I ≃ Dev nD × I)
      (fun p : Dev nD × I => P p.2 p.1)]
  rfl

/-- Handing the tokens to the payers only moves them between partners. -/
theorem toks_across : (bigSep Finset.univ fun c : Dev nD => held0 (F := F) c) = bigSep Finset.univ fun c : Dev nD => payToks (F := F) c := by
  unfold held0 payToks
  simp only [bigSep_sep']
  rw [across e e_e (fun d c => (dutyTok ER (barCell c) 0 d : sProp 𝕄)), across peer peer_peer (fun k c => (dutyTok ER (rcvCell k c) 0 (0 : Fin 3) : sProp 𝕄))]

/-- What device `c` starts from besides the shared facts: its positions, and the tokens of the duties it pays. -/
def linear (c : Dev nD) : sProp 𝕄 :=
  iprop((bigSep Finset.univ fun i : Role => atPos ER (kcell (c, i)) 0 ∅ 0) ∗ payToks (F := F) c)

/-- That, with the shared facts under some names. -/
def G' (c : Dev nD) : sProp 𝕄 := iprop(∃ K, records (F := F) x w K ∗ linear (F := F) c)

/-- The invariants and marks of all cells are shared by all devices; the positions and tokens go to each device. -/
theorem regroup :
    (bigSep Finset.univ fun c : Dev nD => iprop((bigSep Finset.univ fun i : Role => iprop(∃ κ : ℕ, cellInv ER (sch (F := F) x w) κ (kcell (c, i))))
          ∗ (bigSep Finset.univ fun i : Role => iprop(atPos ER (kcell (c, i)) 0 ∅ 0 ∗ reached ER (kcell (c, i)) 0)) ∗ minted (F := F) c) : sProp 𝕄)
      ⊢ bigSep Finset.univ (G' (F := F) x w) := by
  simp only [bigSep_sep']
  rw [← bigSep_univ_prod (fun ci : Dev nD × Role => iprop(∃ κ : ℕ, cellInv ER (sch (F := F) x w) κ (kcell ci))),
    ← bigSep_univ_prod (fun ci : Dev nD × Role => (reached ER (kcell ci) 0 : sProp 𝕄))]
  iintro ⟨HI, ⟨Hat, #HR⟩, Htok⟩
  ihave HK := (BI.bigSep_exists_pi Finset.univ (fun (ci : Dev nD × Role) (κ : ℕ) => (cellInv ER (sch (F := F) x w) κ (kcell ci) : sProp 𝕄))) $$ HI
  icases HK with ⟨%K, #HI⟩
  have htk : (bigSep Finset.univ fun c : Dev nD => minted (F := F) c) ⊢ bigSep Finset.univ fun c : Dev nD => payToks (F := F) c := by
    rw [← toks_across]; exact bigSep_mono fun c _ => minted_held (F := F) c
  ihave Htk := htk $$ Htok
  have hone (c : Dev nD) : iprop(records (F := F) x w K ∗ linear (F := F) c) ⊢ G' (F := F) x w c := by
    unfold G'; iintro H; iexists K; iexact H
  have hall : iprop(records (F := F) x w K ∗ bigSep Finset.univ fun c : Dev nD => linear (F := F) c) ⊢ bigSep Finset.univ (G' (F := F) x w) :=
    (sep_mono_left (BI.bigSep_of_persistent Finset.univ (records (F := F) x w K))).trans (by rw [← bigSep_sep']; exact bigSep_mono fun c _ => hone c)
  iapply hall
  isplitr
  · unfold records; isplitl; · iexact HI
    iexact HR
  · unfold linear; rw [bigSep_sep']
    isplitl [Hat] <;> iassumption

/-- All devices' cells get their invariants, and each device the tokens it pays with. -/
theorem glob : (bigSep Finset.univ fun c => iprop(Pipeline.ownSems0 (Ix := Unit) (Name := ℕ) (U := UU) (Lvl := ℕ) (Val := Elt F) (τ := τ) osem c
      ∗ unscopedSems0 c ∗ G (F := F) x w c) : sProp 𝕄) ⊢ |={Set.univ}=> bigSep Finset.univ (G' (F := F) x w) :=
  ((bigSep_mono fun c _ => alloc x w c).trans (bigSep_fupd _ _)).trans (BI.fupd_mono (regroup x w))

/-! ## The launch credit -/

/-- Two cells are equal when their devices and roles are. -/
theorem kcell_eq_iff {a b : Dev nD} {i j : Role} : (kcell (a, i) = kcell (b, j)) ↔ (a = b ∧ i = j) :=
  ⟨fun h => ⟨congrArg Prod.fst (kcell_injective h), congrArg Prod.snd (kcell_injective h)⟩, fun h => by rw [h.1, h.2]⟩

/-- One debt, read at a cell. -/
theorem tally_kcell (a b : Dev nD) (i j : Role) (n : ℕ) :
    (tallyAt (kcell (a, i)) () n : CellTallies nD τ sig Unit) (kcell (b, j)) () = if i = j then (if b = a then n else 0) else 0 := by
  rw [tallyAt_apply]
  by_cases h : i = j
  · by_cases h' : b = a
    · rw [if_pos ⟨kcell_eq_iff.mpr ⟨h', h.symm⟩, rfl⟩, if_pos h, if_pos h']
    · rw [if_neg (fun hh => h' (kcell_eq_iff.mp hh.1).1), if_pos h, if_neg h']
  · rw [if_neg (fun hh => h (kcell_eq_iff.mp hh.1).2.symm), if_neg h]

/-- What device `d` owes at a cell of device `c`. -/
theorem owed_at (d c : Dev nD) (j : Role) : O₀ d (kcell (c, j)) ()
    = (((∑ k : Fin 15, if some (true, k) = j then (if c = peer k d then amt k else 0) else 0)
        + if none = j then (if c = e 2 d then 1 else 0) else 0) + if none = j then (if c = e 1 d then 1 else 0) else 0)
      + if none = j then (if c = e 0 d then 1 else 0) else 0 := by
  unfold O₀ O₁ O₂ owedFrom
  rw [show Finset.univ.filter (fun k : Fin 15 => 0 ≤ k.val) = Finset.univ from by decide]
  rw [Pi.add_apply, Finsupp.add_apply, Pi.add_apply, Finsupp.add_apply, Pi.add_apply, Finsupp.add_apply, Finset.sum_apply, Finsupp.finset_sum_apply]
  exact congr (congrArg HAdd.hAdd (congr (congrArg HAdd.hAdd (congr (congrArg HAdd.hAdd (Finset.sum_congr rfl fun k _ => tally_kcell (peer k d) c (some (true, k)) j (amt k)))
    (tally_kcell (e 2 d) c none j 1))) (tally_kcell (e 1 d) c none j 1))) (tally_kcell (e 0 d) c none j 1)

/-- Each device is credited what all devices owe its barrier cell, and its receive cells. -/
theorem owed_bar (c : Dev nD) : ∑ d : Dev nD, O₀ d (barCell c) () = 3 := by
  refine (Finset.sum_congr rfl fun d _ => owed_at d c none).trans ?_; revert c; decide +kernel
/-- The receive cell of copy `k`: the partner owes it the copy's credit. -/
theorem owed_rcv (k : Fin 15) (c : Dev nD) : ∑ d : Dev nD, O₀ d (rcvCell k c) () = amt k := by
  refine (Finset.sum_congr rfl fun d _ => owed_at d c (some (true, k))).trans ?_; revert k c; decide +kernel

/-- The credit at launch of a cell is the sum of what all devices owe it. -/
theorem credit_of (c : Dev nD) (j : Role) (n : ℕ) (h : ∑ d : Dev nD, O₀ d (kcell (c, j)) () = n) :
    tallyOn (kcell (c, j)) (launchCredit (Pipeline.owing O₀) 0 (kcell (c, j))) = (tallyAt (kcell (c, j)) () n : CellTallies nD τ sig Unit) := by
  unfold tallyAt; refine congrArg _ (Finsupp.ext fun u => ?_); cases u
  rw [Pipeline.launchCredit_owing, Finsupp.single_eq_same, h]

/-- The same, as a resource. -/
theorem cred_of (c : Dev nD) (j : Role) (n : ℕ) (h : ∑ d : Dev nD, O₀ d (kcell (c, j)) () = n) :
    (cred (tallyOn (kcell (c, j)) (launchCredit (Pipeline.owing O₀) 0 (kcell (c, j)))) : sProp 𝕄) ⊢ cred (tallyAt (kcell (c, j)) () n) := by
  rw [credit_of c j n h]

/-- Distinct roles have distinct semaphores. -/
theorem csem_injective : Function.Injective csem := fun i j h => Option.some.inj (by rw [← roleOf_csem i, ← roleOf_csem j, h])

/-- A device's launch credit, split into the barrier's and each copy's. -/
theorem creds (c : Dev nD) : (Pipeline.launchCred O₀ c : sProp 𝕄)
    ⊢ iprop(cred (tallyAt (barCell c) () 3) ∗ bigSep Finset.univ fun k : Fin 15 => cred (tallyAt (rcvCell k c) () (amt k))) := by
  have h0 : (Pipeline.launchCred O₀ c : sProp 𝕄) ⊢ bigSep Finset.univ fun i : Role => cred (tallyOn (kcell (c, i)) (launchCredit (Pipeline.owing O₀) 0 (kcell (c, i)))) := by
    unfold Pipeline.launchCred
    have h := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at h
    exact h
  rw [over_roles] at h0
  iintro H
  icases h0 $$ H with ⟨HB, -, H⟩
  isplitl [HB]
  · iapply (cred_of (F := F) c none 3 (owed_bar c)); iexact HB
  have h : (bigSep Finset.univ fun k : Fin 15 => cred (tallyOn (rcvCell k c) (launchCredit (Pipeline.owing O₀) 0 (rcvCell k c))) : sProp 𝕄)
      ⊢ bigSep Finset.univ fun k : Fin 15 => cred (tallyAt (rcvCell k c) () (amt k)) :=
    bigSep_mono fun k _ => cred_of (F := F) c (some (true, k)) (amt k) (owed_rcv k c)
  iapply h; iexact H

/-- What the body starts from: the shared facts, the barrier's share and every copy's. -/
def start (c : Dev nD) : sProp 𝕄 :=
  iprop((∃ K, known (F := F) x w K) ∗ gate (F := F) c ∗ bigSep Finset.univ fun k : Fin 15 => idle (F := F) k c)

/-- The launch gives each device what its body starts from. -/
theorem start_of (c : Dev nD) : iprop(levAts L lv ∗ Pipeline.launchCred O₀ c ∗ G' (F := F) x w c) ⊢ start (F := F) x w c := by
  unfold G' linear payToks start gate
  rw [over_roles, over_dirs]
  iintro ⟨HL, HC, %K, HR, ⟨HaB, HaS, HaV⟩, HtB, HtS, HtV⟩
  icases (creds (F := F) c) $$ HC with ⟨HcB, HcV⟩
  isplitl [HL HR]
  · iexists K; unfold known; isplitl [HR] <;> iassumption
  isplitl [HtB HaB HcB]
  · isplitl [HtB]; · iexact HtB
    isplitl [HaB]; · iexact HaB
    iexact HcB
  unfold idle
  simp only [bigSep_sep']
  isplitl [HtS HtV]
  · isplitl [HtS]; · iexact HtS
    iexact HtV
  isplitl [HaS]; · iexact HaS
  isplitl [HaV]; · iexact HaV
  iexact HcV

end Cert.KProof

end
-- ==== Proof.Launch.lean ====
/-
# The run of the whole program on the eight devices
-/
module

public import proofs.«01_k».proof.Proof.Ghost
public import Idealize.ShloMosaic.Lib.Pipeline.CollectiveSegs
public import proofs.«01_k».proof.Proof.Gen.KernelIdeal.Launch
public import proofs.«01_k».proof.Proof.Gen.KernelIdeal.Points

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device's operands hold -/

/-- The devices' blocks of the operands, and their scale factors. -/
def xop (c : Dev nD) : (⟨2, ![4096, 512]⟩ : Shape).Idx → BitVec 8 := (win0_0.blk t0_0).view.read (Elt F) (m ((c : Thread nD τ).loc main_arg0))
/-- Device `c`'s right operand. -/
def wop (c : Dev nD) : (⟨2, ![512, 2048]⟩ : Shape).Idx → BitVec 8 := (win0_1.blk t0_0).view.read (Elt F) (m ((c : Thread nD τ).loc main_arg1))
/-- Its first scale factor. -/
def s2op (c : Dev nD) : S1.Idx → F .f32 := (win0_2.blk t0_0).view.read (Elt F) (m ((c : Thread nD τ).loc main_arg2))
/-- Its second scale factor. -/
def s3op (c : Dev nD) : S1.Idx → F .f32 := (win0_3.blk t0_0).view.read (Elt F) (m ((c : Thread nD τ).loc main_arg3))

/-- The product of device `c`'s two scale factors. -/
def scl (c : Dev nD) : F .f32 := k0_pay33 (s2op m c (ValueIdx.ix1 0)) (s3op m c (ValueIdx.ix1 0))

/-- A one-word array is its word. -/
theorem one_word {α : Type} (f : S1.Idx → α) : f = fun _ => f (ValueIdx.ix1 0) :=
  funext fun i => congrArg f (funext fun a => by match a with | ⟨0, _⟩ => exact Subsingleton.elim (α := Fin 1) _ _)

/-- Device `c`'s result. -/
def outAt (c : Dev nD) : (⟨2, ![512, 2048]⟩ : Shape).Idx → F .f32 :=
  fun i => outV (xop m) (wop m) (scl m c) c (i 0).val (i 1).val

/-! ## The pipeline's proof data -/

/-- The scratch buffers, whole, with whatever they hold. -/
def scratch (c : Dev nD) : sProp 𝕄 := Pipeline.scopedRest (Ix := Unit) (Name := ℕ) (U := UU) (Lvl := ℕ) (Val := Elt F) (τ := τ) spec0 c

/-- What device `c` holds before the body, besides the staged windows. -/
def Φ₀ (c : Dev nD) : sProp 𝕄 := iprop(start (F := F) (xop m) (wop m) c ∗ scratch (F := F) c)
/-- What it holds after the body. -/
def Φ₁ (c : Dev nD) : sProp 𝕄 := iprop(scratch (F := F) c ∗ semVal (barCell c) 0 ∗ bigSep Finset.univ fun k : Fin 15 => fin (F := F) k c)

/-- The pipeline's data: the arrays at launch, the windows after the body, what is held and what is owed before and after. -/
def dats (_ : Fin 1) (c : Dev nD) : Dat τ (Elt F) Unit ℕ UU ℕ cfg0 c where
  A w := m ((cfg0.win w).arr.view.loc (c : Thread nD τ))
  after w _ := match w with
    | ⟨0, _⟩ => xop m c
    | ⟨1, _⟩ => wop m c
    | ⟨2, _⟩ => s2op m c
    | ⟨3, _⟩ => s3op m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer with known contents, spelled out. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The scratch buffers are the body's working buffers -/

/-- The six working buffers, as owned sets of blocks. -/
theorem raw_owned (c : Dev nD) (X : Finset ℕ) :
    raw (F := F) 0 c X = owned (D := 8) (R := 512) (W := 640) (Memref.whole cc0_scratch0) c X
    ∧ raw (F := F) 1 c X = owned (D := 8) (R := 512) (W := 640) (Memref.whole cc0_scratch1) c X
    ∧ raw (F := F) 2 c X = owned (D := 8) (R := 512) (W := 768) (Memref.whole cc0_scratch2) c X
    ∧ rraw (F := F) 0 c X = owned (D := 7) (R := 512) (W := 640) (Memref.whole cc0_scratch3) c X
    ∧ rraw (F := F) 1 c X = owned (D := 7) (R := 512) (W := 640) (Memref.whole cc0_scratch4) c X
    ∧ rraw (F := F) 2 c X = owned (D := 7) (R := 512) (W := 768) (Memref.whole cc0_scratch5) c X := ⟨rfl, rfl, rfl, rfl, rfl, rfl⟩

/-- The scratch buffers, as the body takes them. -/
theorem scratch_work (c : Dev nD) : scratch (F := F) c ⊢ work (F := F) c := by
  unfold scratch work
  rw [scopedRest0_eq]
  iintro ⟨⟨%f0, H0⟩, ⟨%f1, H1⟩, ⟨%f2, H2⟩, ⟨%f3, H3⟩, ⟨%f4, H4⟩, ⟨%f5, H5⟩⟩
  obtain ⟨r0, r1, r2, r3, r4, r5⟩ := raw_owned (F := F) c (Finset.range 8)
  obtain ⟨-, -, -, q3, q4, q5⟩ := raw_owned (F := F) c (Finset.range 7)
  rw [r0, r1, r2, q3, q4, q5]
  isplitl [H0 H1 H2]
  · isplitl [H0]
    · iapply (owned_of_whole (F := F) (c := c) (D := 8) (R := 512) (W := 640) (Memref.whole cc0_scratch0) f0)
      simp only [Memref.view_whole, View.set_whole]; iexact H0
    isplitl [H1]
    · iapply (owned_of_whole (F := F) (c := c) (D := 8) (R := 512) (W := 640) (Memref.whole cc0_scratch1) f1)
      simp only [Memref.view_whole, View.set_whole]; iexact H1
    · iapply (owned_of_whole (F := F) (c := c) (D := 8) (R := 512) (W := 768) (Memref.whole cc0_scratch2) f2)
      simp only [Memref.view_whole, View.set_whole]; iexact H2
  isplitl [H3]
  · iapply (owned_of_whole (F := F) (c := c) (D := 7) (R := 512) (W := 640) (Memref.whole cc0_scratch3) f3)
    simp only [Memref.view_whole, View.set_whole]; iexact H3
  isplitl [H4]
  · iapply (owned_of_whole (F := F) (c := c) (D := 7) (R := 512) (W := 640) (Memref.whole cc0_scratch4) f4)
    simp only [Memref.view_whole, View.set_whole]; iexact H4
  · iapply (owned_of_whole (F := F) (c := c) (D := 7) (R := 512) (W := 768) (Memref.whole cc0_scratch5) f5)
    simp only [Memref.view_whole, View.set_whole]; iexact H5

/-- The body's working buffers, as the launch takes them back. -/
theorem work_scratch (c : Dev nD) : work (F := F) c ⊢ scratch (F := F) c := by
  unfold scratch work
  rw [scopedRest0_eq]
  have h0 := whole_of_owned (F := F) (c := c) (D := 8) (R := 512) (W := 640) (Memref.whole cc0_scratch0)
  have h1 := whole_of_owned (F := F) (c := c) (D := 8) (R := 512) (W := 640) (Memref.whole cc0_scratch1)
  have h2 := whole_of_owned (F := F) (c := c) (D := 8) (R := 512) (W := 768) (Memref.whole cc0_scratch2)
  have h3 := whole_of_owned (F := F) (c := c) (D := 7) (R := 512) (W := 640) (Memref.whole cc0_scratch3)
  have h4 := whole_of_owned (F := F) (c := c) (D := 7) (R := 512) (W := 640) (Memref.whole cc0_scratch4)
  have h5 := whole_of_owned (F := F) (c := c) (D := 7) (R := 512) (W := 768) (Memref.whole cc0_scratch5)
  simp only [Memref.view_whole, View.set_whole] at h0 h1 h2 h3 h4 h5
  obtain ⟨r0, r1, r2, r3, r4, r5⟩ := raw_owned (F := F) c (Finset.range 8)
  obtain ⟨-, -, -, q3, q4, q5⟩ := raw_owned (F := F) c (Finset.range 7)
  rw [r0, r1, r2, q3, q4, q5]
  iintro ⟨⟨H0, H1, H2⟩, H3, H4, H5⟩
  isplitl [H0]; · iapply h0; iexact H0
  isplitl [H1]; · iapply h1; iexact H1
  isplitl [H2]; · iapply h2; iexact H2
  isplitl [H3]; · iapply h3; iexact H3
  isplitl [H4]; · iapply h4; iexact H4
  iapply h5; iexact H5

/-! ## The body obligation -/

/-- A staging buffer holds `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is given. -/
def bodyPre (c : Dev nD) : sProp 𝕄 :=
  iprop(Φ₀ m c ∗ (dats m 0 c).owesAt () t0_0.castSucc
    ∗ (∃ d, staged c cc0_stg0_0 ((dats m 0 c).before (0 : Fin 5) t0_0 d)) ∗ (∃ d, staged c cc0_stg1_0 ((dats m 0 c).before (1 : Fin 5) t0_0 d))
    ∗ (∃ d, staged c cc0_stg2_0 ((dats m 0 c).before (2 : Fin 5) t0_0 d)) ∗ (∃ d, staged c cc0_stg3_0 ((dats m 0 c).before (3 : Fin 5) t0_0 d))
    ∗ (∃ d, staged c cc0_stg4_0 ((dats m 0 c).before (4 : Fin 5) t0_0 d)))

/-- What it must give back. -/
def bodyPost (c : Dev nD) : sProp 𝕄 :=
  iprop(Φ₁ c ∗ (dats m 0 c).owesAt () t0_0.succ
    ∗ staged c cc0_stg0_0 (xop m c) ∗ staged c cc0_stg1_0 (wop m c) ∗ staged c cc0_stg2_0 (s2op m c) ∗ staged c cc0_stg3_0 (s3op m c) ∗ staged c cc0_stg4_0 (outAt m c))

/-- The left operand's window holds the left operand. -/
theorem before0 (c : Dev nD) (d) : (dats m 0 c).before (0 : Fin 5) t0_0 d = xop m c := by
  unfold Dat.before; rw [if_pos (fetch0_0 t0_0)]; rfl
/-- The right operand's window holds the right operand. -/
theorem before1 (c : Dev nD) (d) : (dats m 0 c).before (1 : Fin 5) t0_0 d = wop m c := by
  unfold Dat.before; rw [if_pos (fetch0_1 t0_0)]; rfl
/-- The first scale factor's window holds it. -/
theorem before2 (c : Dev nD) (d) : (dats m 0 c).before (2 : Fin 5) t0_0 d = s2op m c := by
  unfold Dat.before; rw [if_pos (fetch0_2 t0_0)]; rfl
/-- The second scale factor's window holds it. -/
theorem before3 (c : Dev nD) (d) : (dats m 0 c).before (3 : Fin 5) t0_0 d = s3op m c := by
  unfold Dat.before; rw [if_pos (fetch0_3 t0_0)]; rfl

/-- The finished output buffer holds the device's result. -/
theorem out_done (c : Dev nD) :
    out (xop m) (wop m) (scl m c) c (((∅ ∪ Finset.Ico 1280 2048) ∪ Finset.Ico 0 640) ∪ Finset.Ico 640 1280) ⊢ staged c cc0_stg4_0 (outAt m c) := by
  unfold out
  iintro ⟨%f, %hf, H⟩
  iexists f
  isplitr
  · ipureintro
    funext i
    refine hf i ?_
    have h := (i 1).isLt
    have h' : (i 1).val < 2048 := h
    simp only [Finset.mem_union, Finset.mem_Ico]
    omega
  iexact H

/-- The body runs from what it is given to what it must give back. -/
theorem body_runs (c : Dev nD) : bodyPre m c ⊢ runs c (atBufs (cc0_body (F := F))) (fun _ => bodyPost m c) := by
  unfold bodyPre Φ₀ start Dat.owesAt Pipeline.owesWithin
  iintro ⟨⟨⟨⟨%K, HK⟩, Hg, Hi⟩, Hs⟩, ⟨%W, %hW, HO⟩, ⟨%d0, %g0, %hg0, Hx⟩, ⟨%d1, %g1, %hg1, Hw⟩, ⟨%d2, %g2, %hg2, H2⟩, ⟨%d3, %g3, %hg3, H3⟩, ⟨%d4, %g4, %hg4, Ho⟩⟩
  rw [before0] at hg0; rw [before1] at hg1; rw [before2, one_word (s2op m c)] at hg2; rw [before3, one_word (s3op m c)] at hg3
  subst hg0 hg1 hg2 hg3
  ihave Hwk := (scratch_work (F := F) c) $$ Hs
  ihave Hout : out (xop m) (wop m) (scl m c) c ∅ $$ [Ho]
  · unfold out; iexists g4; isplitr
    · ipureintro; intro i hi; exact absurd hi (Finset.notMem_empty _)
    iexact Ho
  ihave Hx : xin (xop m) c $$ [Hx]
  · unfold xin; iexact Hx
  ihave Hw : win (wop m) c $$ [Hw]
  · unfold win; iexact Hw
  ihave H2 : sin2 (F := F) c (s2op m c (ValueIdx.ix1 0)) $$ [H2]
  · unfold sin2; iexact H2
  ihave H3 : sin3 (F := F) c (s3op m c (ValueIdx.ix1 0)) $$ [H3]
  · unfold sin3; iexact H3
  unfold scl
  iapply (sound_body (xop m) (wop m) K c (s2op m c (ValueIdx.ix1 0)) (s3op m c (ValueIdx.ix1 0)) _) $$ HK Hx Hw H2 H3 Hout Hwk Hg Hi [HO]
  · iexists W; iexact HO
  iintro Hx Hw H2 H3 Hout Hwk HB Hf HO
  unfold owing
  icases HO with ⟨%W', HO⟩
  unfold bodyPost Φ₁ Dat.owesAt Pipeline.owesWithin xin win sin2 sin3
  rw [owedFrom_done, show (dats m 0 c).owed t0_0.succ = 0 from rfl]
  isplitl [Hwk HB Hf]
  · isplitl [Hwk]; · iapply (work_scratch (F := F) c); iexact Hwk
    isplitl [HB] <;> iassumption
  isplitl [HO]
  · iexists W'; isplitr; · ipureintro; exact fun _ _ => Or.inl trivial
    iexact HO
  isplitl [Hx]
  · iexists _; isplitr; · ipureintro; rfl
    iexact Hx
  isplitl [Hw]
  · iexists _; isplitr; · ipureintro; rfl
    iexact Hw
  isplitl [H2]
  · iexists _; isplitr; · ipureintro; exact (one_word (s2op m c)).symm
    iexact H2
  isplitl [H3]
  · iexists _; isplitr; · ipureintro; exact (one_word (s3op m c)).symm
    iexact H3
  iapply (out_done m c); iexact Hout

/-- The same, as the pipeline asks for it. -/
theorem body_obligation (c : Dev nD) : BodyObligation (dats (F := F) m 0 c) (defs₀ (F := F)) 𝒱₀ () Set.univ := fun t => by
  rw [fin_N0 t]
  rw [bigSep_W0, bigSep_W0]
  simp only [owns_eq]
  exact body_runs m c

/-! ## The launch -/

/-- The kernel's own semaphores are distinct, scoped, and none of the pipeline's. -/
theorem ownSemFacts : Pipeline.OwnSemFacts cfg0.spec osem where
  isScoped := by decide
  inj := fun p q h => Option.some.inj (csem_injective h)
  disj := by decide

/-- Every window's array is held in full. -/
theorem share_eq (c : Dev nD) (w : Fin cfg0.W) : (dats m 0 c).share w = fullShare := by unfold Dat.share; split <;> rfl

/-- The launch element: the pipeline's and the exchange's. -/
def u₀ : UU :=
  (initOf (Pipeline.cells cfgs cellOf_inj) (Pipeline.launchToks cfgs cellOf_inj), initOf allCells allToks)

/-- The launch resources give what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) (xop m) (wop m) c)
      ⊢ |={Set.univ}=> iprop(start (F := F) (xop m) (wop m) c ∗ emp) := by
  iintro ⟨-, HL, HC, -, HG⟩
  imodintro
  isplitl
  · iapply (start_of (F := F) (xop m) (wop m) c)
    isplitl [HL]; · iexact HL
    isplitl [HC] <;> iassumption
  · iempintro

/-- With the scratch buffers they are what is held before the body. -/
theorem phi0_intro (c : Dev nD) :
    iprop(start (F := F) (xop m) (wop m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scratch
  iintro ⟨Hs, -, Hr⟩
  isplitl [Hs] <;> iassumption

/-- What is held after the body gives back the counters at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, own_sems, rest_sems]
  unfold Φ₁ scratch fin
  simp only [bigSep_sep']
  iintro ⟨Hr, HB, HS, HV⟩
  isplitl [HB]; · iexact HB
  isplitl [HS HV]
  · isplitl [HS] <;> iassumption
  iexact Hr

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-- The windows' arrays after the run. -/
def finalA (c : Dev nD) (w : Fin cfg0.W) : Buf (Elt F) ((cfg0.win w).arr.view.loc (c : Thread nD τ)) := (dats m 0 c).arrAt w cfg0.N

/-- From any memory with zero counters, every execution of the program on the eight devices ends with every operand's and
    the result's array at `finalA` and every semaphore at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (F := F) (xop m) (wop m)) (G' := G' (F := F) (xop m) (wop m)) (u₀ := u₀)
    (hu₀ := by
      unfold u₀
      iintro Hu
      ihave H := (ownU_pair _ _) $$ Hu
      icases H with ⟨HP, HX⟩
      imod (fund_cells (F := F) (xop m) (wop m)) $$ HX with HG
      imodintro
      isplitl [HP] <;> iassumption)
    (hglob := glob (F := F) (xop m) (wop m))
    (hA := fun _ _ => rfl) (hpf := fun _ k => k.elim0)
    (X := start (F := F) (xop m) (wop m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Frames.lean ====
/-
# The programs' runs leave their arguments as they were
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.KProof

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- An argument array ends as it began. -/
theorem finalA_in (c : Dev nD) (w : Fin cfg0.W) (h : (cfg0.win w).isOut = false) :
    finalA m c w = m ((cfg0.win w).arr.view.loc (c : Thread nD τ)) := (dats m 0 c).arrAt_in w h _

/-- The program runs, its arguments end unchanged, and every semaphore counter ends at zero. -/
theorem run_args :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c 0).trans (finalA_in m c 0 rfl), (h.1 c 1).trans (finalA_in m c 1 rfl),
    (h.1 c 2).trans (finalA_in m c 2 rfl), (h.1 c 3).trans (finalA_in m c 3 rfl)⟩, h.2⟩) (run_main m ρ)

/-- The idealized program runs to its end and leaves its arguments and counters as they were. -/
theorem frame_ideal : Cert.quiescent_KernelIdeal := fun m ρ _ => run_args (F := Ideal) m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Same.lean ====
/-
# The program as printed and the program read at exact arithmetic are one text

The second is the first with no operation replaced, so what is shown of one over any float values holds of the other.
-/
module

public import proofs.«01_k».proof.Proof.Frames

@[expose] public section

set_option maxRecDepth 16384

noncomputable section

namespace Cert.KProof

open Idealize.ShloMosaic
open Idealize.SL.Sem

variable {F : FTy → Type} [FloatOps F]

/-- The two kernel bodies. -/
theorem same_body : @Cert.Kernel.cc0_body F _ Cert.Kernel.Gen.facts = @Cert.KernelIdeal.cc0_body F _ Cert.KernelIdeal.Gen.facts := rfl

/-- The two body tables. -/
theorem same_defs₀ : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (Λ := Cert.KernelIdeal.Λ₀)) ?_
  funext l a
  match l, a with
  | 0, (t, s) =>
    dsimp only
    rfl

/-- The two programs' definitions. -/
theorem same_defs : @Cert.Kernel.defs F _ Cert.Kernel.Gen.facts = @Cert.KernelIdeal.defs F _ Cert.KernelIdeal.Gen.facts := by
  unfold Cert.Kernel.defs Cert.KernelIdeal.defs
  rw [← same_defs₀]
  rfl

/-- The two programs' entry points. -/
theorem same_main : @Cert.Kernel.main F _ = @Cert.KernelIdeal.main F _ := rfl

set_option maxHeartbeats 4000000 in
/-- The kernel runs to its end and leaves its arguments and counters as they were: it is the idealized program at the bit-level types. -/
theorem frame_kernel : Cert.quiescent_Kernel (hKernel := Cert.Kernel.Gen.facts) := fun m ρ _ => by
  rw [same_defs]
  exact run_args (F := Bits) m ρ

end Cert.KProof

end
-- ==== Proof.Sums.lean ====
/-
# The kernel's running sums, in exact arithmetic

Each device's contribution to an entry is an exact integer that a 32-bit word holds, and changes of format keep it. A
group's three exchanges double the set of devices summed, one direction at a time, so the last sum is over all eight.
-/
module

public import proofs.«01_k».proof.Proof.Same
public import Idealize.ShloMosaic.Lib.StackMember

@[expose] public section

set_option maxRecDepth 16384

noncomputable section

namespace Cert.KProof

open Cert.KernelIdeal Cert.KernelIdeal.Gen
open Idealize.ShloMosaic
open Idealize.ShloMosaic.TcCoe
open Idealize.ShloMosaic.ValueIdx

section Sums

variable (x : Dev nD → (⟨2, ![4096, 512]⟩ : Shape).Idx → BitVec 8) (w : Dev nD → (⟨2, ![512, 2048]⟩ : Shape).Idx → BitVec 8)

/-- A dot product over 512 positions fits a 32-bit word. -/
theorem dotN_word (c : Dev nD) (r n : ℕ) : (BitVec.ofInt 32 (dotN x w c r n)).toInt = dotN x w c r n := by
  have h : |dotN x w c r n| ≤ 512 * 2 ^ 14 := by
    refine (Finset.abs_sum_le_sum_abs _ _).trans ((Finset.sum_le_card_nsmul _ _ (2 ^ 14) fun k _ => ?_).trans (by simp))
    rw [abs_mul]
    have h1 := natAbs_toInt_i8_le (at2 (x c) r k.val)
    have h2 := natAbs_toInt_i8_le (at2 (w c) k.val n)
    exact (mul_le_mul (b := 128) (d := 128) (by rw [Int.abs_eq_natAbs]; omega) (by rw [Int.abs_eq_natAbs]; omega) (abs_nonneg _) (by decide)).trans (by decide)
  rw [abs_le] at h
  rw [BitVec.toInt_ofInt]
  apply Int.bmod_eq_of_le <;> omega

/-- A device's contribution is its integer dot product. -/
theorem part_exact (c : Dev nD) (r n : ℕ) : part (F := Ideal) x w c r n = ((dotN x w c r n : ℝ) : EReal) := by
  show (((BitVec.ofInt 32 (dotN x w c r n)).toInt : ℝ) : EReal) = _
  rw [dotN_word]

/-- The devices whose contributions a running sum holds. -/
def leaves (g : Fin 3) : ℕ → Dev nD → List (Dev nD)
  | 0, c => [c]
  | s + 1, c => leaves g s c ++ leaves g s (e (gdir g (Fin.ofNat 3 s)) c)

/-- After three exchanges they are all the devices, once each. -/
theorem leaves_all (g : Fin 3) (c : Dev nD) : (leaves g 3 c).Perm (List.finRange 8) := by revert g c; decide +kernel

/-- A running sum is the sum of the contributions it has gathered. -/
theorem Sv_leaves (g : Fin 3) (s : ℕ) (c : Dev nD) (r n : ℕ) :
    Sv (F := Ideal) x w g s c r n = ((((leaves g s c).map fun d => dotN x w d r n).sum : ℤ) : ℝ) := by
  induction s generalizing c with
  | zero => simp only [Sv, leaves, List.map_cons, List.map_nil, List.sum_cons, List.sum_nil, add_zero]; exact part_exact x w c r n
  | succ s ih =>
    rw [Sv, leaves, ih, ih, List.map_append, List.sum_append, Int.cast_add, EReal.coe_add]
    rfl

/-- The last sum is over all the devices. -/
theorem Sv_all (g : Fin 3) (c : Dev nD) (r n : ℕ) :
    Sv (F := Ideal) x w g 3 c r n = (((∑ d : Dev nD, dotN x w d r n : ℤ) : ℝ) : EReal) := by
  rw [Sv_leaves, ((leaves_all g c).map _).sum_eq, Fin.sum_univ_def]

end Sums

/-! ## The blocks are parts of the whole arrays -/

/-- A sum over 4096 positions, eight runs of 512. -/
theorem sum_runs (f : ℕ → ℤ) : ∑ d : Fin 8, ∑ k : Fin 512, f (d.val * 512 + k.val) = ∑ k : Fin 4096, f k.val := by
  rw [← Fintype.sum_prod_type' (f := fun (d : Fin 8) (k : Fin 512) => f (d.val * 512 + k.val)),
    ← (finProdFinEquiv (m := 8) (n := 512)).sum_comp]
  refine Finset.sum_congr rfl fun p _ => congrArg f ?_
  simp only [finProdFinEquiv_apply_val]
  omega

variable (X : (⟨2, ![4096, 4096]⟩ : Shape).Idx → BitVec 8) (W : (⟨2, ![4096, 2048]⟩ : Shape).Idx → BitVec 8)
  (hX : Layout.Tiles ⟨2, ![4096, 512]⟩ ⟨2, ![4096, 4096]⟩ 1 8) (hW : Layout.Tiles ⟨2, ![512, 2048]⟩ ⟨2, ![4096, 2048]⟩ 0 8)

/-- The devices' dot products of their blocks add up to the whole arrays' dot product. -/
theorem dotN_blocks (r : Fin 4096) (n : Fin 2048) :
    ∑ d : Dev nD, dotN (fun c => Layout.block ⟨2, ![4096, 512]⟩ ⟨2, ![4096, 4096]⟩ 1 8 c X hX)
        (fun c => Layout.block ⟨2, ![512, 2048]⟩ ⟨2, ![4096, 2048]⟩ 0 8 c W hW) d r.val n.val
      = ∑ k : Fin 4096, (X (ValueIdx.ix2 r k)).toInt * (W (ValueIdx.ix2 k n)).toInt := by
  have hk (k : Fin 4096) : (X (ValueIdx.ix2 r k)).toInt * (W (ValueIdx.ix2 k n)).toInt = (at2 X r.val k.val).toInt * (at2 W k.val n.val).toInt := by
    rw [at2_idx X (ValueIdx.ix2 r k) rfl rfl, at2_idx W (ValueIdx.ix2 k n) rfl rfl]
  rw [Finset.sum_congr rfl fun k _ => hk k, ← sum_runs fun k => (at2 X r.val k).toInt * (at2 W k n.val).toInt]
  refine Finset.sum_congr rfl fun d _ => Finset.sum_congr rfl fun k _ => ?_
  have e1 := at2_idx (Layout.block ⟨2, ![4096, 512]⟩ ⟨2, ![4096, 4096]⟩ 1 8 d X hX) (ValueIdx.ix2 r k) (r := r.val) (n := k.val) rfl rfl
  have e2 := at2_idx (Layout.block ⟨2, ![512, 2048]⟩ ⟨2, ![4096, 2048]⟩ 0 8 d W hW) (ValueIdx.ix2 k n) (r := k.val) (n := n.val) rfl rfl
  rw [e1, e2, Layout.block_apply, Layout.block_apply,
    at2_idx X (hX.idx d (ValueIdx.ix2 r k)) (r := r.val) (n := d.val * 512 + k.val) rfl rfl,
    at2_idx W (hW.idx d (ValueIdx.ix2 k n)) (r := d.val * 512 + k.val) (n := n.val) rfl rfl]

/-- A sum of products of integers, taken in exact arithmetic, is the integer sum of products. -/
theorem sum_exact {K : ℕ} (a b : Fin K → ℤ) :
    ∑ k : Fin K, ((a k : ℝ) : EReal) * ((b k : ℝ) : EReal) = (((∑ k : Fin K, a k * b k : ℤ) : ℝ) : EReal) := by
  induction K with
  | zero => simp
  | succ K ih =>
    rw [Fin.sum_univ_succ, Fin.sum_univ_succ, ih (fun k => a k.succ) (fun k => b k.succ), ← EReal.coe_mul, ← EReal.coe_add]
    push_cast
    rfl

end Cert.KProof

end
-- ==== Proof.Result.lean ====
/-
# The kernel's result is its rows of the reference's
-/
module

public import proofs.«01_k».proof.Proof.Sums
public import Idealize.ShloMosaic.Lib.Pipeline.ValueKit.Geometry

@[expose] public section

set_option maxRecDepth 16384

noncomputable section

namespace Cert.KProof

open Cert.KernelIdeal Cert.KernelIdeal.Gen
open Idealize.ShloMosaic
open Idealize.ShloMosaic.TcCoe
open Idealize.ShloMosaic.ValueIdx
open Idealize.SL.Sem

section Arrays

variable {F : FTy → Type} [FloatOps F] (m : (ℓ : Loc nD τ sig) → Buf (Elt F) ℓ)

/-- A window's one block is its whole array. -/
theorem ops_whole (c : Dev nD) :
    xop m c = m ((c : Thread nD τ).loc main_arg0) ∧ wop m c = m ((c : Thread nD τ).loc main_arg1)
      ∧ s2op m c = m ((c : Thread nD τ).loc main_arg2) ∧ s3op m c = m ((c : Thread nD τ).loc main_arg3) := by
  have z0 : (fun a => win0_0.index t0_0 a * main_arg0.ty.shape.size a) = fun _ => 0 := funext fun a => by fin_cases a <;> decide
  have z1 : (fun a => win0_1.index t0_0 a * main_arg1.ty.shape.size a) = fun _ => 0 := funext fun a => by fin_cases a <;> decide
  have z2 : (fun a => win0_2.index t0_0 a * main_arg2.ty.shape.size a) = fun _ => 0 := funext fun a => by fin_cases a; decide
  have z3 : (fun a => win0_3.index t0_0 a * main_arg3.ty.shape.size a) = fun _ => 0 := funext fun a => by fin_cases a; decide
  exact ⟨Memref.read_access_unit_zero (Elt F) main_arg0 z0 (fun a => by fin_cases a <;> decide) _,
    Memref.read_access_unit_zero (Elt F) main_arg1 z1 (fun a => by fin_cases a <;> decide) _,
    Memref.read_access_unit_zero (Elt F) main_arg2 z2 (fun a => by fin_cases a; decide) _,
    Memref.read_access_unit_zero (Elt F) main_arg3 z3 (fun a => by fin_cases a; decide) _⟩

/-- The result array ends holding what the body left in the result's buffer. -/
theorem finalA_out (c : Dev nD) : finalA m c 4 = outAt m c := by
  refine (dats m 0 c).arrAt_eq_of_after_last 4 t0_0 (by decide +kernel) _ fun j => ?_
  rfl

end Arrays

/-- The reference's result. -/
def refOut (X : (⟨2, ![4096, 4096]⟩ : Shape).Idx → BitVec 8) (W : (⟨2, ![4096, 2048]⟩ : Shape).Idx → BitVec 8)
    (s t : (⟨1, ![1]⟩ : Shape).Idx → Ideal .f32) : (⟨2, ![4096, 2048]⟩ : Shape).Idx → Ideal .f32 :=
  mulf (Host.dotGeneral Cert.ReferenceIdeal.dot_S4096x4096_S4096x2048_S4096x2048_1_0_0_1_n_n none
      (sitofp .f32 (extsi 32 X Cert.ReferenceIdeal.Facts₀.natLt_8_32)) (sitofp .f32 (extsi 32 W Cert.ReferenceIdeal.Facts₀.natLt_8_32)))
    (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf s t)))

/-- An entry of it: the integer dot product, exactly, times the product of the scale factors. -/
theorem refOut_apply (X : (⟨2, ![4096, 4096]⟩ : Shape).Idx → BitVec 8) (W : (⟨2, ![4096, 2048]⟩ : Shape).Idx → BitVec 8)
    (s t : (⟨1, ![1]⟩ : Shape).Idx → Ideal .f32) (r : Fin 4096) (n : Fin 2048) :
    refOut X W s t (ValueIdx.ix2 r n)
      = (((∑ k : Fin 4096, (X (ValueIdx.ix2 r k)).toInt * (W (ValueIdx.ix2 k n)).toInt : ℤ) : ℝ) : EReal)
        * (s (ValueIdx.ix1 0) * t (ValueIdx.ix1 0) : EReal) := by
  have hst (j) : mulf s t j = (s (ValueIdx.ix1 0) * t (ValueIdx.ix1 0) : EReal) := congrFun (one_word (mulf s t)) j
  refine congr (congrArg HMul.hMul (?_ : Host.dotGeneral (F := Ideal) (DotDims.plain 4096 4096 2048) none _ _ (ValueIdx.ix2 r n) = _)) (hst _)
  rw [StackMember.dotGeneral_plain_apply]
  refine ((Finset.sum_congr rfl fun k _ => ?_).trans
    (sum_exact (fun k => (X (ValueIdx.ix2 r k)).toInt) fun k => (W (ValueIdx.ix2 k n)).toInt))
  show (((BitVec.signExtend 32 (X (ValueIdx.ix2 r k))).toInt : ℝ) : EReal) * (((BitVec.signExtend 32 (W (ValueIdx.ix2 k n))).toInt : ℝ) : EReal) = _
  rw [BitVec.toInt_signExtend_of_le (by decide), BitVec.toInt_signExtend_of_le (by decide)]

/-- A device's result is its block of the reference's, when its operands are its blocks of the reference's. -/
theorem outAt_block (m : (ℓ : Loc nD τ sig) → Buf (Elt Ideal) ℓ)
    (X : (⟨2, ![4096, 4096]⟩ : Shape).Idx → BitVec 8) (W : (⟨2, ![4096, 2048]⟩ : Shape).Idx → BitVec 8)
    (s t : (⟨1, ![1]⟩ : Shape).Idx → Ideal .f32)
    (hX : Layout.Tiles ⟨2, ![4096, 512]⟩ ⟨2, ![4096, 4096]⟩ 1 8) (hW : Layout.Tiles ⟨2, ![512, 2048]⟩ ⟨2, ![4096, 2048]⟩ 0 8)
    (h0 : ∀ c : Dev nD, m ((c : Thread nD τ).loc main_arg0) = Layout.block ⟨2, ![4096, 512]⟩ ⟨2, ![4096, 4096]⟩ 1 8 c X hX)
    (h1 : ∀ c : Dev nD, m ((c : Thread nD τ).loc main_arg1) = Layout.block ⟨2, ![512, 2048]⟩ ⟨2, ![4096, 2048]⟩ 0 8 c W hW)
    (h2 : ∀ c : Dev nD, m ((c : Thread nD τ).loc main_arg2) = s) (h3 : ∀ c : Dev nD, m ((c : Thread nD τ).loc main_arg3) = t)
    (c : Dev nD) : outAt m c = Layout.block ⟨2, ![512, 2048]⟩ ⟨2, ![4096, 2048]⟩ 0 8 c (refOut X W s t) hW := by
  funext i
  have hx : xop m = fun c => Layout.block ⟨2, ![4096, 512]⟩ ⟨2, ![4096, 4096]⟩ 1 8 c X hX :=
    funext fun c => (ops_whole m c).1.trans (h0 c)
  have hw : wop m = fun c => Layout.block ⟨2, ![512, 2048]⟩ ⟨2, ![4096, 2048]⟩ 0 8 c W hW :=
    funext fun c => (ops_whole m c).2.1.trans (h1 c)
  have hs : s2op m c = s := (ops_whole m c).2.2.1.trans (h2 c)
  have ht : s3op m c = t := (ops_whole m c).2.2.2.trans (h3 c)
  have hi : 512 * c.val + (i 0).val < 4096 := by
    have := c.isLt; have := idx2_lt0 i
    change c.val < 8 at *; omega
  have hidx : hW.idx c i = ValueIdx.ix2 ⟨512 * c.val + (i 0).val, hi⟩ (show Fin 2048 from i 1) := by
    funext a
    match a with
    | ⟨0, _⟩ => exact Fin.ext (congrArg (· + (i 0).val) (Nat.mul_comm c.val 512))
    | ⟨1, _⟩ => rfl
  rw [Layout.block_apply, hidx, refOut_apply, ← dotN_blocks X W hX hW]
  unfold outAt outV scl scaled
  rw [Sv_all, hx, hw, hs, ht]
  rfl

/-- From memories that agree on the arguments, both programs run, and each device's result is its block of the
    reference's. -/
theorem value : Cert.algebraic_KernelIdeal_ReferenceIdeal := fun m g m' g' _ hag =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run defs _ _).mono (fun _ h c => ⟨(h.1 c 4).trans ((finalA_out m c).trans (outAt_block m _ _ _ _ _ _
        (fun c => (hag c).1) (fun c => (hag c).2.1) (fun c => (hag c).2.2.1) (fun c => (hag c).2.2.2) c)),
      (h.1 c 0).trans (finalA_in m c 0 rfl), (h.1 c 1).trans (finalA_in m c 1 rfl),
      (h.1 c 2).trans (finalA_in m c 2 rfl), (h.1 c 3).trans (finalA_in m c 3 rfl)⟩) (run_main (F := Ideal) m g),
    (θ_run Cert.ReferenceIdeal.defs _ _).mono (fun _ h => h 0) (Cert.ReferenceIdeal.Value.run (F := Ideal) m' g')⟩

end Cert.KProof

end
-- ==== Proof.lean ====
/-
# The claims

`Cert.Claim`: the kernel as printed and as read in exact arithmetic both run, keep their arguments and leave every
semaphore at zero; so does the reference; the two texts of the kernel are one; and in exact arithmetic each device's
result is its rows of the reference's. The parts are proved in the modules imported here, in the order Mesh, Held, Values,
Sched, Exchange, Step, Parts, Bar, Deal, Body, Ghost, Launch, Frames, Same, Sums, Result.
-/
module

public import proofs.«01_k».proof.Defs
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

/-- Every claim of this certificate. -/
theorem claim : Cert.Claim := ⟨Cert.Kernel.Gen.facts, Cert.KernelIdeal.Gen.facts, Cert.ReferenceIdeal.Gen.facts,
  Cert.KProof.frame_kernel, Cert.KProof.frame_ideal, Cert.KProof.frame_reference, trivial, Cert.KProof.value⟩

end Cert.Proof

end
